-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_above_minus_infinity [hPre_above_minus_infinity : Cert.Pre_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_above_minus_infinity [hPre_above_minus_infinity : Cert.Pre_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_above_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_ShiftedIdeal (m : (ℓ : Loc Cert.ShiftedIdeal.nD Cert.ShiftedIdeal.τ Cert.ShiftedIdeal.sig) → Buf (Elt Ideal) ℓ) : Prop :=
  True

def Pre_LiteralIdeal (m : (ℓ : Loc Cert.LiteralIdeal.nD Cert.LiteralIdeal.τ Cert.LiteralIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_above_minus_infinity [hKernelIdeal : Cert.KernelIdeal.Facts] [hPre_above_minus_infinity : Cert.Pre_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_above_minus_infinity [hReferenceIdeal : Cert.ReferenceIdeal.Facts] [hPre_above_minus_infinity : Cert.Pre_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_above_minus_infinity [hKernelIdeal : Cert.KernelIdeal.Facts] [hReferenceIdeal : Cert.ReferenceIdeal.Facts] [hPre_above_minus_infinity : Cert.Pre_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def disproves_algebraic_ShiftedIdeal_LiteralIdeal [hShiftedIdeal : Cert.ShiftedIdeal.Facts] [hLiteralIdeal : Cert.LiteralIdeal.Facts] : Prop :=
  ∀ (m : (ℓ : Loc Cert.ShiftedIdeal.nD Cert.ShiftedIdeal.τ Cert.ShiftedIdeal.sig) → Buf (Elt Ideal) ℓ) (g : Dev Cert.ShiftedIdeal.nD → PrngReg)
    (m' : (ℓ : Loc Cert.LiteralIdeal.nD Cert.LiteralIdeal.τ Cert.LiteralIdeal.sig) → Buf (Elt Ideal) ℓ) (g' : Dev Cert.LiteralIdeal.nD → PrngReg),
    (∀ c : Dev Cert.ShiftedIdeal.nD,
      m ((c.tc : Thread Cert.ShiftedIdeal.nD Cert.ShiftedIdeal.τ).loc Cert.ShiftedIdeal.main_arg0) = Cert.Cx_ShiftedIdeal.arg0 (F := Ideal)) →
    (∀ c : Dev Cert.ShiftedIdeal.nD,
      m' ((c.tc : Thread Cert.LiteralIdeal.nD Cert.LiteralIdeal.τ).loc Cert.LiteralIdeal.main_arg0) = m ((c.tc : Thread Cert.ShiftedIdeal.nD Cert.ShiftedIdeal.τ).loc Cert.ShiftedIdeal.main_arg0)) →
    Pre_ShiftedIdeal m
    ∧ ∃ (v0 : (c : Dev Cert.ShiftedIdeal.nD) → Buf (Elt Ideal) ((c.tc : Thread Cert.ShiftedIdeal.nD Cert.ShiftedIdeal.τ).loc Cert.ShiftedIdeal.main_v91)) (v1 : (c : Dev Cert.ShiftedIdeal.nD) → Buf (Elt Ideal) ((c.tc : Thread Cert.ShiftedIdeal.nD Cert.ShiftedIdeal.τ).loc Cert.ShiftedIdeal.main_v97)),
      θ_run (Cert.ShiftedIdeal.defs (F := Ideal)) (onTc (τ := Cert.ShiftedIdeal.τ) (Cert.ShiftedIdeal.main (F := Ideal))) ⟨m, fun _ => 0, g⟩ (fun r => ¬ (∀ c : Dev Cert.ShiftedIdeal.nD,
          r.2.mem ((c.tc : Thread Cert.ShiftedIdeal.nD Cert.ShiftedIdeal.τ).loc Cert.ShiftedIdeal.main_v91) = v0 c
          ∧ r.2.mem ((c.tc : Thread Cert.ShiftedIdeal.nD Cert.ShiftedIdeal.τ).loc Cert.ShiftedIdeal.main_v97) = v1 c))
      ∧ θ_run (Cert.LiteralIdeal.defs (F := Ideal)) (onTc (τ := Cert.LiteralIdeal.τ) (Cert.LiteralIdeal.main (F := Ideal))) ⟨m', fun _ => 0, g'⟩ (fun r => ∀ c : Dev Cert.LiteralIdeal.nD,
          r.2.mem ((c.tc : Thread Cert.LiteralIdeal.nD Cert.LiteralIdeal.τ).loc Cert.LiteralIdeal.main_v91) = v0 c
          ∧ r.2.mem ((c.tc : Thread Cert.LiteralIdeal.nD Cert.LiteralIdeal.τ).loc Cert.LiteralIdeal.main_v97) = v1 c)

def Claim : Prop :=
  ∃ (hKernel : Cert.Kernel.Facts) (hKernelIdeal : Cert.KernelIdeal.Facts) (hReferenceIdeal : Cert.ReferenceIdeal.Facts) (hShiftedIdeal : Cert.ShiftedIdeal.Facts) (hLiteralIdeal : Cert.LiteralIdeal.Facts) (hPre_above_minus_infinity : Cert.Pre_above_minus_infinity.Facts),
    quiescent_Kernel (hKernel := hKernel)
    ∧ quiescent_KernelIdeal (hKernelIdeal := hKernelIdeal)
    ∧ quiescent_KernelIdeal_pre_above_minus_infinity (hKernelIdeal := hKernelIdeal) (hPre_above_minus_infinity := hPre_above_minus_infinity)
    ∧ quiescent_ReferenceIdeal (hReferenceIdeal := hReferenceIdeal)
    ∧ quiescent_ReferenceIdeal_pre_above_minus_infinity (hReferenceIdeal := hReferenceIdeal) (hPre_above_minus_infinity := hPre_above_minus_infinity)
    ∧ preserves_Kernel_KernelIdeal
    ∧ algebraic_KernelIdeal_ReferenceIdeal_pre_above_minus_infinity (hKernelIdeal := hKernelIdeal) (hReferenceIdeal := hReferenceIdeal) (hPre_above_minus_infinity := hPre_above_minus_infinity)
    ∧ disproves_algebraic_ShiftedIdeal_LiteralIdeal (hShiftedIdeal := hShiftedIdeal) (hLiteralIdeal := hLiteralIdeal)
-- ==== Cx_ShiftedIdeal.lean ====
noncomputable def arg0_words : Fin 1 → BitVec 32 :=
  ![0x3EE00000#32]
noncomputable def arg0 {F : FTy → Type} [FloatOps F] : FVec F (⟨1, ![1]⟩ : Shape) .f32 := fun i => FloatOps.ofBits .f32 (arg0_words (i 0))
-- ==== Pre_above_minus_infinity.lean ====
abbrev S2048x2048 : Shape := ⟨2, ![2048, 2048]⟩
abbrev S2048x1 : Shape := ⟨2, ![2048, 1]⟩
abbrev S1024x64 : Shape := ⟨2, ![1024, 64]⟩
abbrev S64 : Shape := ⟨1, ![64]⟩
abbrev S64x17408 : Shape := ⟨2, ![64, 17408]⟩
abbrev S17408 : Shape := ⟨1, ![17408]⟩
abbrev S2048x1024 : Shape := ⟨2, ![2048, 1024]⟩
abbrev S_ : Shape := ⟨0, ![]⟩

class Facts : Prop where
  slices_S2048x2048_S2048x1024_0_1024 : S2048x2048.Slices ![0, 1024] S2048x1024
  bcast_S_S2048x1024 : S_.BroadcastsInDim S2048x1024 (![] : Fin 0 → Fin S2048x1024.rank)

variable [Facts]

def fn {F : FTy → Type} [FloatOps F] (main_arg0 : FVec F S2048x2048 .f32) (main_arg1 : FVec F S2048x1 .f32) (main_arg2 : FVec F S1024x64 .f32) (main_arg3 : FVec F S64 .f32) (main_arg4 : FVec F S64x17408 .f32) (main_arg5 : FVec F S17408 .f32) : IVec S2048x1024 1 :=
  let main_v0 : FVec F S2048x1024 .f32 := (extractStridedSlice S2048x1024 ![0, 1024] · slices_S2048x2048_S2048x1024_0_1024) main_arg0
  let main_cst : FVec F S_ .f32 := constant S_ .f32 0xFF800000#32
  let main_v1 : FVec F S2048x1024 .f32 := broadcastInDim S2048x1024 ![] bcast_S_S2048x1024 main_cst
  let main_v2 : IVec S2048x1024 1 := cmpf .ogt main_v0 main_v1
  main_v2
-- ==== Kernel.lean ====
abbrev S2048x2048 : Shape := ⟨2, ![2048, 2048]⟩
abbrev S2048x1 : Shape := ⟨2, ![2048, 1]⟩
abbrev S1024x64 : Shape := ⟨2, ![1024, 64]⟩
abbrev S64 : Shape := ⟨1, ![64]⟩
abbrev S64x17408 : Shape := ⟨2, ![64, 17408]⟩
abbrev S17408 : Shape := ⟨1, ![17408]⟩
abbrev S17408x64 : Shape := ⟨2, ![17408, 64]⟩
abbrev S1024x17 : Shape := ⟨2, ![1024, 17]⟩
abbrev S17x1024 : Shape := ⟨2, ![17, 1024]⟩
abbrev S1x17408 : Shape := ⟨2, ![1, 17408]⟩
abbrev S1x64 : Shape := ⟨2, ![1, 64]⟩
abbrev S256x2048 : Shape := ⟨2, ![256, 2048]⟩
abbrev S256x1 : Shape := ⟨2, ![256, 1]⟩
abbrev S1024x17x64 : Shape := ⟨3, ![1024, 17, 64]⟩
abbrev S1024x1x64 : Shape := ⟨3, ![1024, 1, 64]⟩
abbrev S64x1024 : Shape := ⟨2, ![64, 1024]⟩
abbrev S256x1024 : Shape := ⟨2, ![256, 1024]⟩
abbrev S256x64 : Shape := ⟨2, ![256, 64]⟩
abbrev S256x17408 : Shape := ⟨2, ![256, 17408]⟩
abbrev S256 : Shape := ⟨1, ![256]⟩

abbrev nBuf : Space → Nat
  | .hbm => 14
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x1, .f32⟩
  | .hbm, ⟨2, _⟩ => ⟨S1024x64, .f32⟩
  | .hbm, ⟨3, _⟩ => ⟨S64, .f32⟩
  | .hbm, ⟨4, _⟩ => ⟨S64x17408, .f32⟩
  | .hbm, ⟨5, _⟩ => ⟨S17408, .f32⟩
  | .hbm, ⟨6, _⟩ => ⟨S17408x64, .f32⟩
  | .hbm, ⟨7, _⟩ => ⟨S1024x17, .f32⟩
  | .hbm, ⟨8, _⟩ => ⟨S17x1024, .f32⟩
  | .hbm, ⟨9, _⟩ => ⟨S1x17408, .f32⟩
  | .hbm, ⟨10, _⟩ => ⟨S1x64, .f32⟩
  | .hbm, ⟨11, _⟩ => ⟨S2048x2048, .f32⟩
  | .hbm, ⟨12, _⟩ => ⟨S2048x1, .f32⟩
  | .hbm, ⟨13, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S1024x64, .f32⟩
  | .local _ .vmem, ⟨3, _⟩ => ⟨S1x64, .f32⟩
  | .local _ .vmem, ⟨4, _⟩ => ⟨S17408x64, .f32⟩
  | .local _ .vmem, ⟨5, _⟩ => ⟨S1x17408, .f32⟩
  | .local _ .vmem, ⟨6, _⟩ => ⟨S256x2048, .f32⟩
  | .local _ .vmem, ⟨7, _⟩ => ⟨S256x2048, .f32⟩
  | .local _ .vmem, ⟨8, _⟩ => ⟨S256x1, .f32⟩
  | .local _ .vmem, ⟨9, _⟩ => ⟨S256x1, .f32⟩
  | .local _ .vmem, ⟨10, _⟩ => ⟨S64x17408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S17408x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x17408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2048x2048 : Shape := ⟨2, ![2048, 2048]⟩
abbrev S2048x1 : Shape := ⟨2, ![2048, 1]⟩
abbrev S1024x64 : Shape := ⟨2, ![1024, 64]⟩
abbrev S64 : Shape := ⟨1, ![64]⟩
abbrev S64x17408 : Shape := ⟨2, ![64, 17408]⟩
abbrev S17408 : Shape := ⟨1, ![17408]⟩
abbrev S2048x1024 : Shape := ⟨2, ![2048, 1024]⟩
abbrev S_ : Shape := ⟨0, ![]⟩
abbrev S2048x64 : Shape := ⟨2, ![2048, 64]⟩
abbrev S1x64 : Shape := ⟨2, ![1, 64]⟩
abbrev S2048x17408 : Shape := ⟨2, ![2048, 17408]⟩
abbrev S1x17408 : Shape := ⟨2, ![1, 17408]⟩
abbrev S2048x1024x17 : Shape := ⟨3, ![2048, 1024, 17]⟩
abbrev S2048x1024x9 : Shape := ⟨3, ![2048, 1024, 9]⟩
abbrev S2048x1024x8 : Shape := ⟨3, ![2048, 1024, 8]⟩
abbrev S2048x1024x1 : Shape := ⟨3, ![2048, 1024, 1]⟩
abbrev S2048x1024x1x1 : Shape := ⟨4, ![2048, 1024, 1, 1]⟩
abbrev S1 : Shape := ⟨1, ![1]⟩
abbrev S1x1x1x1 : Shape := ⟨4, ![1, 1, 1, 1]⟩

abbrev nBuf : Space → Nat
  | .hbm => 229
  | .vmem => 0
  | .smem => 0
  | _ => 0

abbrev hbmTy0_0 (i : Nat) : BufTy := match i % 128 with
  | 0 => ⟨S2048x2048, .f32⟩
  | 1 => ⟨S2048x1, .f32⟩
  | 2 => ⟨S1024x64, .f32⟩
  | 3 => ⟨S64, .f32⟩
  | 4 => ⟨S64x17408, .f32⟩
  | 5 => ⟨S17408, .f32⟩
  | 6 => ⟨S2048x1024, .f32⟩
  | 7 => ⟨S2048x1024, .f32⟩
  | 8 => ⟨S_, .f32⟩
  | 9 => ⟨S2048x1024, .f32⟩
  | 10 => ⟨S2048x1024, .f32⟩
  | 11 => ⟨S2048x64, .f32⟩
  | 12 => ⟨S1x64, .f32⟩
  | 13 => ⟨S2048x64, .f32⟩
  | 14 => ⟨S2048x64, .f32⟩
  | 15 => ⟨S2048x64, .f32⟩
  | 16 => ⟨S2048x17408, .f32⟩
  | 17 => ⟨S1x17408, .f32⟩
  | 18 => ⟨S2048x17408, .f32⟩
  | 19 => ⟨S2048x17408, .f32⟩
  | 20 => ⟨S2048x17408, .f32⟩
  | 21 => ⟨S2048x1024x17, .f32⟩
  | 22 => ⟨S2048x1024x9, .f32⟩
  | 23 => ⟨S2048x1024x8, .f32⟩
  | 24 => ⟨S_, .f32⟩
  | 25 => ⟨S2048x1024, .f32⟩
  | 26 => ⟨S_, .f32⟩
  | 27 => ⟨S2048x1024, .f32⟩
  | 28 => ⟨S2048x1024, .f32⟩
  | 29 => ⟨S2048x1024x1, .f32⟩
  | 30 => ⟨S2048x1024x8, .f32⟩
  | 31 => ⟨S2048x1024x8, .f32⟩
  | 32 => ⟨S2048x1024x8, .f32⟩
  | 33 => ⟨S_, .f32⟩
  | 34 => ⟨S2048x1024, .f32⟩
  | 35 => ⟨S2048x1024x1, .f32⟩
  | 36 => ⟨S2048x1024x8, .f32⟩
  | 37 => ⟨S2048x1024x8, .f32⟩
  | 38 => ⟨S_, .f32⟩
  | 39 => ⟨S2048x1024x8, .f32⟩
  | 40 => ⟨S2048x1024x8, .f32⟩
  | 41 => ⟨S2048x1024x8, .f32⟩
  | 42 => ⟨S2048x1024x8, .f32⟩
  | 43 => ⟨S2048x1024x8, .f32⟩
  | 44 => ⟨S2048x1024x8, .f32⟩
  | 45 => ⟨S2048x1024x8, .f32⟩
  | 46 => ⟨S2048x1024x8, .f32⟩
  | 47 => ⟨S_, .f32⟩
  | 48 => ⟨S2048x1024, .f32⟩
  | 49 => ⟨S2048x1024x1, .f32⟩
  | 50 => ⟨S2048x1024x9, .f32⟩
  | 51 => ⟨S2048x1024x9, .f32⟩
  | 52 => ⟨S2048x1024x9, .f32⟩
  | 53 => ⟨S_, .f32⟩
  | 54 => ⟨S2048x1024x1, .f32⟩
  | 55 => ⟨S_, .f32⟩
  | 56 => ⟨S_, .f32⟩
  | 57 => ⟨S2048x1024x8, .f32⟩
  | 58 => ⟨S2048x1024x9, .f32⟩
  | 59 => ⟨S_, .f32⟩
  | 60 => ⟨S2048x1024x9, .f32⟩
  | 61 => ⟨S2048x1024x9, .f32⟩
  | 62 => ⟨S_, .f32⟩
  | 63 => ⟨S2048x1024x1, .f32⟩
  | 64 => ⟨S_, .f32⟩
  | 65 => ⟨S2048x1024x8, .f32⟩
  | 66 => ⟨S2048x1024x8, .f32⟩
  | 67 => ⟨S2048x1024x8, .f32⟩
  | 68 => ⟨S2048x1024x8, .f32⟩
  | 69 => ⟨S2048x1024x8, .f32⟩
  | 70 => ⟨S2048x1024x8, .f32⟩
  | 71 => ⟨S_, .f32⟩
  | 72 => ⟨S_, .f32⟩
  | 73 => ⟨S2048x1024x8, .f32⟩
  | 74 => ⟨S2048x1024x9, .f32⟩
  | 75 => ⟨S2048x1024x1, .f32⟩
  | 76 => ⟨S2048x1024x9, .f32⟩
  | 77 => ⟨S2048x1024x9, .i1⟩
  | 78 => ⟨S2048x1024x9, .i32⟩
  | 79 => ⟨S_, .i32⟩
  | 80 => ⟨S2048x1024, .i32⟩
  | 81 => ⟨S2048x1024x1, .i32⟩
  | 82 => ⟨S_, .i32⟩
  | 83 => ⟨S2048x1024x1, .i32⟩
  | 84 => ⟨S2048x1024x1, .i32⟩
  | 85 => ⟨S_, .i32⟩
  | 86 => ⟨S_, .i32⟩
  | 87 => ⟨S_, .i32⟩
  | 88 => ⟨S2048x1024x1, .i32⟩
  | 89 => ⟨S2048x1024x1, .i32⟩
  | 90 => ⟨S_, .i32⟩
  | 91 => ⟨S2048x1024x1, .i32⟩
  | 92 => ⟨S2048x1024x1, .i32⟩
  | 93 => ⟨S_, .i32⟩
  | 94 => ⟨S2048x1024x1, .i32⟩
  | 95 => ⟨S2048x1024x1, .i1⟩
  | 96 => ⟨S_, .i32⟩
  | 97 => ⟨S2048x1024x1, .i32⟩
  | 98 => ⟨S2048x1024x1, .i32⟩
  | 99 => ⟨S2048x1024x1, .i32⟩
  | 100 => ⟨S2048x1024x1x1, .i32⟩
  | 101 => ⟨S1, .i32⟩
  | 102 => ⟨S_, .i32⟩
  | 103 => ⟨S2048x1024x1x1, .i32⟩
  | 104 => ⟨S2048x1024x1x1, .i1⟩
  | 105 => ⟨S1x1x1x1, .i32⟩
  | 106 => ⟨S2048x1024x1x1, .i32⟩
  | 107 => ⟨S2048x1024x1x1, .i1⟩
  | 108 => ⟨S2048x1024x1x1, .i1⟩
  | 109 => ⟨S_, .i1⟩
  | 110 => ⟨S2048x1024x1, .i1⟩
  | 111 => ⟨S2048x1024x1, .f32⟩
  | 112 => ⟨S_, .f32⟩
  | 113 => ⟨S2048x1024x1, .f32⟩
  | 114 => ⟨S2048x1024x1, .f32⟩
  | 115 => ⟨S_, .i32⟩
  | 116 => ⟨S2048x1024x1, .i32⟩
  | 117 => ⟨S2048x1024x1, .i1⟩
  | 118 => ⟨S_, .i32⟩
  | 119 => ⟨S2048x1024x1, .i32⟩
  | 120 => ⟨S2048x1024x1, .i32⟩
  | 121 => ⟨S2048x1024x1, .i32⟩
  | 122 => ⟨S2048x1024x1x1, .i32⟩
  | 123 => ⟨S1, .i32⟩
  | 124 => ⟨S_, .i32⟩
  | 125 => ⟨S2048x1024x1x1, .i32⟩
  | 126 => ⟨S2048x1024x1x1, .i1⟩
  | 127 => ⟨S1x1x1x1, .i32⟩
  | _ => ⟨S2048x2048, .f32⟩

abbrev hbmTy0_1 (i : Nat) : BufTy := match i % 128 with
  | 0 => ⟨S2048x1024x1x1, .i32⟩
  | 1 => ⟨S2048x1024x1x1, .i1⟩
  | 2 => ⟨S2048x1024x1x1, .i1⟩
  | 3 => ⟨S_, .i1⟩
  | 4 => ⟨S2048x1024x1, .i1⟩
  | 5 => ⟨S2048x1024x1, .f32⟩
  | 6 => ⟨S_, .f32⟩
  | 7 => ⟨S2048x1024x1, .f32⟩
  | 8 => ⟨S2048x1024x1, .f32⟩
  | 9 => ⟨S_, .i32⟩
  | 10 => ⟨S2048x1024x1, .i32⟩
  | 11 => ⟨S2048x1024x1, .i32⟩
  | 12 => ⟨S_, .i32⟩
  | 13 => ⟨S2048x1024x1, .i32⟩
  | 14 => ⟨S2048x1024x1, .i1⟩
  | 15 => ⟨S_, .i32⟩
  | 16 => ⟨S2048x1024x1, .i32⟩
  | 17 => ⟨S2048x1024x1, .i32⟩
  | 18 => ⟨S2048x1024x1, .i32⟩
  | 19 => ⟨S2048x1024x1x1, .i32⟩
  | 20 => ⟨S1, .i32⟩
  | 21 => ⟨S_, .i32⟩
  | 22 => ⟨S2048x1024x1x1, .i32⟩
  | 23 => ⟨S2048x1024x1x1, .i1⟩
  | 24 => ⟨S1x1x1x1, .i32⟩
  | 25 => ⟨S2048x1024x1x1, .i32⟩
  | 26 => ⟨S2048x1024x1x1, .i1⟩
  | 27 => ⟨S2048x1024x1x1, .i1⟩
  | 28 => ⟨S_, .i1⟩
  | 29 => ⟨S2048x1024x1, .i1⟩
  | 30 => ⟨S2048x1024x1, .f32⟩
  | 31 => ⟨S_, .f32⟩
  | 32 => ⟨S2048x1024x1, .f32⟩
  | 33 => ⟨S2048x1024x1, .f32⟩
  | 34 => ⟨S_, .i32⟩
  | 35 => ⟨S2048x1024x1, .i32⟩
  | 36 => ⟨S2048x1024x1, .i1⟩
  | 37 => ⟨S_, .i32⟩
  | 38 => ⟨S2048x1024x1, .i32⟩
  | 39 => ⟨S2048x1024x1, .i32⟩
  | 40 => ⟨S2048x1024x1, .i32⟩
  | 41 => ⟨S2048x1024x1x1, .i32⟩
  | 42 => ⟨S1, .i32⟩
  | 43 => ⟨S_, .i32⟩
  | 44 => ⟨S2048x1024x1x1, .i32⟩
  | 45 => ⟨S2048x1024x1x1, .i1⟩
  | 46 => ⟨S1x1x1x1, .i32⟩
  | 47 => ⟨S2048x1024x1x1, .i32⟩
  | 48 => ⟨S2048x1024x1x1, .i1⟩
  | 49 => ⟨S2048x1024x1x1, .i1⟩
  | 50 => ⟨S_, .i1⟩
  | 51 => ⟨S2048x1024x1, .i1⟩
  | 52 => ⟨S2048x1024x1, .f32⟩
  | 53 => ⟨S_, .f32⟩
  | 54 => ⟨S2048x1024x1, .f32⟩
  | 55 => ⟨S2048x1024x1, .f32⟩
  | 56 => ⟨S_, .i32⟩
  | 57 => ⟨S2048x1024x1, .i32⟩
  | 58 => ⟨S2048x1024x1, .i1⟩
  | 59 => ⟨S_, .i32⟩
  | 60 => ⟨S2048x1024x1, .i32⟩
  | 61 => ⟨S2048x1024x1, .i32⟩
  | 62 => ⟨S2048x1024x1, .i32⟩
  | 63 => ⟨S2048x1024x1x1, .i32⟩
  | 64 => ⟨S1, .i32⟩
  | 65 => ⟨S_, .i32⟩
  | 66 => ⟨S2048x1024x1x1, .i32⟩
  | 67 => ⟨S2048x1024x1x1, .i1⟩
  | 68 => ⟨S1x1x1x1, .i32⟩
  | 69 => ⟨S2048x1024x1x1, .i32⟩
  | 70 => ⟨S2048x1024x1x1, .i1⟩
  | 71 => ⟨S2048x1024x1x1, .i1⟩
  | 72 => ⟨S_, .i1⟩
  | 73 => ⟨S2048x1024x1, .i1⟩
  | 74 => ⟨S2048x1024x1, .f32⟩
  | 75 => ⟨S_, .f32⟩
  | 76 => ⟨S2048x1024x1, .f32⟩
  | 77 => ⟨S2048x1024x1, .f32⟩
  | 78 => ⟨S2048x1024x1, .f32⟩
  | 79 => ⟨S2048x1024x1, .f32⟩
  | 80 => ⟨S2048x1024x1, .f32⟩
  | 81 => ⟨S2048x1024x1, .f32⟩
  | 82 => ⟨S2048x1024x1, .f32⟩
  | 83 => ⟨S2048x1024x1, .f32⟩
  | 84 => ⟨S2048x1024x1, .f32⟩
  | 85 => ⟨S_, .f32⟩
  | 86 => ⟨S2048x1024x1, .f32⟩
  | 87 => ⟨S2048x1024x1, .f32⟩
  | 88 => ⟨S2048x1024x1, .f32⟩
  | 89 => ⟨S2048x1024x1, .f32⟩
  | 90 => ⟨S2048x1024x1, .f32⟩
  | 91 => ⟨S2048x1024x1, .f32⟩
  | 92 => ⟨S2048x1024, .f32⟩
  | 93 => ⟨S2048x2048, .f32⟩
  | 94 => ⟨S2048x1024x1, .f32⟩
  | 95 => ⟨S2048x1024x1, .f32⟩
  | 96 => ⟨S2048x1024x1, .f32⟩
  | 97 => ⟨S2048x1024x1, .f32⟩
  | 98 => ⟨S_, .f32⟩
  | 99 => ⟨S2048x1, .f32⟩
  | 100 => ⟨S2048x1, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_call0_call0_cst : Ref sig .tc := ⟨.hbm, 55, rfl⟩
abbrev main_call0_call0_v0 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call1_call0_cst : Ref sig .tc := ⟨.hbm, 71, rfl⟩
abbrev main_call1_call0_v0 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c : Ref sig .tc := ⟨.hbm, 79, rfl⟩
abbrev main_v59 : Ref sig .tc := ⟨.hbm, 80, rfl⟩
abbrev main_v60 : Ref sig .tc := ⟨.hbm, 81, rfl⟩
abbrev main_c_9 : Ref sig .tc := ⟨.hbm, 82, rfl⟩
abbrev main_v61 : Ref sig .tc := ⟨.hbm, 83, rfl⟩
abbrev main_v62 : Ref sig .tc := ⟨.hbm, 84, rfl⟩
abbrev main_c_10 : Ref sig .tc := ⟨.hbm, 85, rfl⟩
abbrev main_c_11 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v63 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_cst : Ref sig .tc := ⟨.hbm, 112, rfl⟩
abbrev main_call3_v14 : Ref sig .tc := ⟨.hbm, 113, rfl⟩
abbrev main_v64 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_c_1 : Ref sig .tc := ⟨.hbm, 123, rfl⟩
abbrev main_call4_c_2 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_c_3 : Ref sig .tc := ⟨.hbm, 131, rfl⟩
abbrev main_call4_v12 : Ref sig .tc := ⟨.hbm, 132, rfl⟩
abbrev main_call4_v13 : Ref sig .tc := ⟨.hbm, 133, rfl⟩
abbrev main_call4_cst : Ref sig .tc := ⟨.hbm, 134, rfl⟩
abbrev main_call4_v14 : Ref sig .tc := ⟨.hbm, 135, rfl⟩
abbrev main_v65 : Ref sig .tc := ⟨.hbm, 136, rfl⟩
abbrev main_c_12 : Ref sig .tc := ⟨.hbm, 137, rfl⟩
abbrev main_v66 : Ref sig .tc := ⟨.hbm, 138, rfl⟩
abbrev main_v67 : Ref sig .tc := ⟨.hbm, 139, rfl⟩
abbrev main_call5_c : Ref sig .tc := ⟨.hbm, 140, rfl⟩
abbrev main_call5_v0 : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_v5 : Ref sig .tc := ⟨.hbm, 147, rfl⟩
abbrev main_call5_c_1 : Ref sig .tc := ⟨.hbm, 148, rfl⟩
abbrev main_call5_c_2 : Ref sig .tc := ⟨.hbm, 149, rfl⟩
abbrev main_call5_v6 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_call5_v11 : Ref sig .tc := ⟨.hbm, 155, rfl⟩
abbrev main_call5_c_3 : Ref sig .tc := ⟨.hbm, 156, rfl⟩
abbrev main_call5_v12 : Ref sig .tc := ⟨.hbm, 157, rfl⟩
abbrev main_call5_v13 : Ref sig .tc := ⟨.hbm, 158, rfl⟩
abbrev main_call5_cst : Ref sig .tc := ⟨.hbm, 159, rfl⟩
abbrev main_call5_v14 : Ref sig .tc := ⟨.hbm, 160, rfl⟩
abbrev main_v68 : Ref sig .tc := ⟨.hbm, 161, rfl⟩
abbrev main_call6_c : Ref sig .tc := ⟨.hbm, 162, rfl⟩
abbrev main_call6_v0 : Ref sig .tc := ⟨.hbm, 163, rfl⟩
abbrev main_call6_v1 : Ref sig .tc := ⟨.hbm, 164, rfl⟩
abbrev main_call6_c_0 : Ref sig .tc := ⟨.hbm, 165, rfl⟩
abbrev main_call6_v2 : Ref sig .tc := ⟨.hbm, 166, rfl⟩
abbrev main_call6_v3 : Ref sig .tc := ⟨.hbm, 167, rfl⟩
abbrev main_call6_v4 : Ref sig .tc := ⟨.hbm, 168, rfl⟩
abbrev main_call6_v5 : Ref sig .tc := ⟨.hbm, 169, rfl⟩
abbrev main_call6_c_1 : Ref sig .tc := ⟨.hbm, 170, rfl⟩
abbrev main_call6_c_2 : Ref sig .tc := ⟨.hbm, 171, rfl⟩
abbrev main_call6_v6 : Ref sig .tc := ⟨.hbm, 172, rfl⟩
abbrev main_call6_v7 : Ref sig .tc := ⟨.hbm, 173, rfl⟩
abbrev main_call6_v8 : Ref sig .tc := ⟨.hbm, 174, rfl⟩
abbrev main_call6_v9 : Ref sig .tc := ⟨.hbm, 175, rfl⟩
abbrev main_call6_v10 : Ref sig .tc := ⟨.hbm, 176, rfl⟩
abbrev main_call6_v11 : Ref sig .tc := ⟨.hbm, 177, rfl⟩
abbrev main_call6_c_3 : Ref sig .tc := ⟨.hbm, 178, rfl⟩
abbrev main_call6_v12 : Ref sig .tc := ⟨.hbm, 179, rfl⟩
abbrev main_call6_v13 : Ref sig .tc := ⟨.hbm, 180, rfl⟩
abbrev main_call6_cst : Ref sig .tc := ⟨.hbm, 181, rfl⟩
abbrev main_call6_v14 : Ref sig .tc := ⟨.hbm, 182, rfl⟩
abbrev main_v69 : Ref sig .tc := ⟨.hbm, 183, rfl⟩
abbrev main_call7_c : Ref sig .tc := ⟨.hbm, 184, rfl⟩
abbrev main_call7_v0 : Ref sig .tc := ⟨.hbm, 185, rfl⟩
abbrev main_call7_v1 : Ref sig .tc := ⟨.hbm, 186, rfl⟩
abbrev main_call7_c_0 : Ref sig .tc := ⟨.hbm, 187, rfl⟩
abbrev main_call7_v2 : Ref sig .tc := ⟨.hbm, 188, rfl⟩
abbrev main_call7_v3 : Ref sig .tc := ⟨.hbm, 189, rfl⟩
abbrev main_call7_v4 : Ref sig .tc := ⟨.hbm, 190, rfl⟩
abbrev main_call7_v5 : Ref sig .tc := ⟨.hbm, 191, rfl⟩
abbrev main_call7_c_1 : Ref sig .tc := ⟨.hbm, 192, rfl⟩
abbrev main_call7_c_2 : Ref sig .tc := ⟨.hbm, 193, rfl⟩
abbrev main_call7_v6 : Ref sig .tc := ⟨.hbm, 194, rfl⟩
abbrev main_call7_v7 : Ref sig .tc := ⟨.hbm, 195, rfl⟩
abbrev main_call7_v8 : Ref sig .tc := ⟨.hbm, 196, rfl⟩
abbrev main_call7_v9 : Ref sig .tc := ⟨.hbm, 197, rfl⟩
abbrev main_call7_v10 : Ref sig .tc := ⟨.hbm, 198, rfl⟩
abbrev main_call7_v11 : Ref sig .tc := ⟨.hbm, 199, rfl⟩
abbrev main_call7_c_3 : Ref sig .tc := ⟨.hbm, 200, rfl⟩
abbrev main_call7_v12 : Ref sig .tc := ⟨.hbm, 201, rfl⟩
abbrev main_call7_v13 : Ref sig .tc := ⟨.hbm, 202, rfl⟩
abbrev main_call7_cst : Ref sig .tc := ⟨.hbm, 203, rfl⟩
abbrev main_call7_v14 : Ref sig .tc := ⟨.hbm, 204, rfl⟩
abbrev main_v70 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩
abbrev main_v74 : Ref sig .tc := ⟨.hbm, 209, rfl⟩
abbrev main_v75 : Ref sig .tc := ⟨.hbm, 210, rfl⟩
abbrev main_v76 : Ref sig .tc := ⟨.hbm, 211, rfl⟩
abbrev main_v77 : Ref sig .tc := ⟨.hbm, 212, rfl⟩
abbrev main_cst_13 : Ref sig .tc := ⟨.hbm, 213, rfl⟩
abbrev main_v78 : Ref sig .tc := ⟨.hbm, 214, rfl⟩
abbrev main_v79 : Ref sig .tc := ⟨.hbm, 215, rfl⟩
abbrev main_v80 : Ref sig .tc := ⟨.hbm, 216, rfl⟩
abbrev main_v81 : Ref sig .tc := ⟨.hbm, 217, rfl⟩
abbrev main_v82 : Ref sig .tc := ⟨.hbm, 218, rfl⟩
abbrev main_v83 : Ref sig .tc := ⟨.hbm, 219, rfl⟩
abbrev main_v84 : Ref sig .tc := ⟨.hbm, 220, rfl⟩
abbrev main_v85 : Ref sig .tc := ⟨.hbm, 221, rfl⟩
abbrev main_v86 : Ref sig .tc := ⟨.hbm, 222, rfl⟩
abbrev main_v87 : Ref sig .tc := ⟨.hbm, 223, rfl⟩
abbrev main_v88 : Ref sig .tc := ⟨.hbm, 224, rfl⟩
abbrev main_v89 : Ref sig .tc := ⟨.hbm, 225, rfl⟩
abbrev main_cst_14 : Ref sig .tc := ⟨.hbm, 226, rfl⟩
abbrev main_v90 : Ref sig .tc := ⟨.hbm, 227, rfl⟩
abbrev main_v91 : Ref sig .tc := ⟨.hbm, 228, rfl⟩

abbrev nD : Nat := 1
abbrev τ : Topo := Topo.v7x

variable {F : FTy → Type} [FloatOps F]
-- ==== ShiftedIdeal.lean ====
abbrev S1 : Shape := ⟨1, ![1]⟩
abbrev S2048x2048 : Shape := ⟨2, ![2048, 2048]⟩
abbrev S_ : Shape := ⟨0, ![]⟩
abbrev S2048x1 : Shape := ⟨2, ![2048, 1]⟩
abbrev S1024x64 : Shape := ⟨2, ![1024, 64]⟩
abbrev S64 : Shape := ⟨1, ![64]⟩
abbrev S64x17408 : Shape := ⟨2, ![64, 17408]⟩
abbrev S17408 : Shape := ⟨1, ![17408]⟩
abbrev S2048x1024 : Shape := ⟨2, ![2048, 1024]⟩
abbrev S2048x64 : Shape := ⟨2, ![2048, 64]⟩
abbrev S1x64 : Shape := ⟨2, ![1, 64]⟩
abbrev S2048x17408 : Shape := ⟨2, ![2048, 17408]⟩
abbrev S1x17408 : Shape := ⟨2, ![1, 17408]⟩
abbrev S2048x1024x17 : Shape := ⟨3, ![2048, 1024, 17]⟩
abbrev S2048x1024x9 : Shape := ⟨3, ![2048, 1024, 9]⟩
abbrev S2048x1024x8 : Shape := ⟨3, ![2048, 1024, 8]⟩
abbrev S2048x1024x1 : Shape := ⟨3, ![2048, 1024, 1]⟩
abbrev S2048x1024x1x1 : Shape := ⟨4, ![2048, 1024, 1, 1]⟩
abbrev S1x1x1x1 : Shape := ⟨4, ![1, 1, 1, 1]⟩

abbrev nBuf : Space → Nat
  | .hbm => 235
  | .vmem => 0
  | .smem => 0
  | _ => 0

abbrev hbmTy0_0 (i : Nat) : BufTy := match i % 128 with
  | 0 => ⟨S1, .f32⟩
  | 1 => ⟨S2048x2048, .f32⟩
  | 2 => ⟨S_, .f32⟩
  | 3 => ⟨S2048x1, .f32⟩
  | 4 => ⟨S_, .f32⟩
  | 5 => ⟨S1024x64, .f32⟩
  | 6 => ⟨S_, .f32⟩
  | 7 => ⟨S64, .f32⟩
  | 8 => ⟨S_, .f32⟩
  | 9 => ⟨S64x17408, .f32⟩
  | 10 => ⟨S_, .f32⟩
  | 11 => ⟨S17408, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S2048x64, .f32⟩
  | 18 => ⟨S1x64, .f32⟩
  | 19 => ⟨S2048x64, .f32⟩
  | 20 => ⟨S2048x64, .f32⟩
  | 21 => ⟨S2048x64, .f32⟩
  | 22 => ⟨S2048x17408, .f32⟩
  | 23 => ⟨S1x17408, .f32⟩
  | 24 => ⟨S2048x17408, .f32⟩
  | 25 => ⟨S2048x17408, .f32⟩
  | 26 => ⟨S2048x17408, .f32⟩
  | 27 => ⟨S2048x1024x17, .f32⟩
  | 28 => ⟨S2048x1024x9, .f32⟩
  | 29 => ⟨S2048x1024x8, .f32⟩
  | 30 => ⟨S_, .f32⟩
  | 31 => ⟨S2048x1024, .f32⟩
  | 32 => ⟨S_, .f32⟩
  | 33 => ⟨S2048x1024, .f32⟩
  | 34 => ⟨S2048x1024, .f32⟩
  | 35 => ⟨S2048x1024x1, .f32⟩
  | 36 => ⟨S2048x1024x8, .f32⟩
  | 37 => ⟨S2048x1024x8, .f32⟩
  | 38 => ⟨S2048x1024x8, .f32⟩
  | 39 => ⟨S_, .f32⟩
  | 40 => ⟨S2048x1024, .f32⟩
  | 41 => ⟨S2048x1024x1, .f32⟩
  | 42 => ⟨S2048x1024x8, .f32⟩
  | 43 => ⟨S2048x1024x8, .f32⟩
  | 44 => ⟨S_, .f32⟩
  | 45 => ⟨S2048x1024x8, .f32⟩
  | 46 => ⟨S2048x1024x8, .f32⟩
  | 47 => ⟨S2048x1024x8, .f32⟩
  | 48 => ⟨S2048x1024x8, .f32⟩
  | 49 => ⟨S2048x1024x8, .f32⟩
  | 50 => ⟨S2048x1024x8, .f32⟩
  | 51 => ⟨S2048x1024x8, .f32⟩
  | 52 => ⟨S2048x1024x8, .f32⟩
  | 53 => ⟨S_, .f32⟩
  | 54 => ⟨S2048x1024, .f32⟩
  | 55 => ⟨S2048x1024x1, .f32⟩
  | 56 => ⟨S2048x1024x9, .f32⟩
  | 57 => ⟨S2048x1024x9, .f32⟩
  | 58 => ⟨S2048x1024x9, .f32⟩
  | 59 => ⟨S_, .f32⟩
  | 60 => ⟨S2048x1024x1, .f32⟩
  | 61 => ⟨S_, .f32⟩
  | 62 => ⟨S_, .f32⟩
  | 63 => ⟨S2048x1024x8, .f32⟩
  | 64 => ⟨S2048x1024x9, .f32⟩
  | 65 => ⟨S_, .f32⟩
  | 66 => ⟨S2048x1024x9, .f32⟩
  | 67 => ⟨S2048x1024x9, .f32⟩
  | 68 => ⟨S_, .f32⟩
  | 69 => ⟨S2048x1024x1, .f32⟩
  | 70 => ⟨S_, .f32⟩
  | 71 => ⟨S2048x1024x8, .f32⟩
  | 72 => ⟨S2048x1024x8, .f32⟩
  | 73 => ⟨S2048x1024x8, .f32⟩
  | 74 => ⟨S2048x1024x8, .f32⟩
  | 75 => ⟨S2048x1024x8, .f32⟩
  | 76 => ⟨S2048x1024x8, .f32⟩
  | 77 => ⟨S_, .f32⟩
  | 78 => ⟨S_, .f32⟩
  | 79 => ⟨S2048x1024x8, .f32⟩
  | 80 => ⟨S2048x1024x9, .f32⟩
  | 81 => ⟨S2048x1024x1, .f32⟩
  | 82 => ⟨S2048x1024x9, .f32⟩
  | 83 => ⟨S2048x1024x9, .i1⟩
  | 84 => ⟨S2048x1024x9, .i32⟩
  | 85 => ⟨S_, .i32⟩
  | 86 => ⟨S2048x1024, .i32⟩
  | 87 => ⟨S2048x1024x1, .i32⟩
  | 88 => ⟨S_, .i32⟩
  | 89 => ⟨S2048x1024x1, .i32⟩
  | 90 => ⟨S2048x1024x1, .i32⟩
  | 91 => ⟨S_, .i32⟩
  | 92 => ⟨S_, .i32⟩
  | 93 => ⟨S_, .i32⟩
  | 94 => ⟨S2048x1024x1, .i32⟩
  | 95 => ⟨S2048x1024x1, .i32⟩
  | 96 => ⟨S_, .i32⟩
  | 97 => ⟨S2048x1024x1, .i32⟩
  | 98 => ⟨S2048x1024x1, .i32⟩
  | 99 => ⟨S_, .i32⟩
  | 100 => ⟨S2048x1024x1, .i32⟩
  | 101 => ⟨S2048x1024x1, .i1⟩
  | 102 => ⟨S_, .i32⟩
  | 103 => ⟨S2048x1024x1, .i32⟩
  | 104 => ⟨S2048x1024x1, .i32⟩
  | 105 => ⟨S2048x1024x1, .i32⟩
  | 106 => ⟨S2048x1024x1x1, .i32⟩
  | 107 => ⟨S1, .i32⟩
  | 108 => ⟨S_, .i32⟩
  | 109 => ⟨S2048x1024x1x1, .i32⟩
  | 110 => ⟨S2048x1024x1x1, .i1⟩
  | 111 => ⟨S1x1x1x1, .i32⟩
  | 112 => ⟨S2048x1024x1x1, .i32⟩
  | 113 => ⟨S2048x1024x1x1, .i1⟩
  | 114 => ⟨S2048x1024x1x1, .i1⟩
  | 115 => ⟨S_, .i1⟩
  | 116 => ⟨S2048x1024x1, .i1⟩
  | 117 => ⟨S2048x1024x1, .f32⟩
  | 118 => ⟨S_, .f32⟩
  | 119 => ⟨S2048x1024x1, .f32⟩
  | 120 => ⟨S2048x1024x1, .f32⟩
  | 121 => ⟨S_, .i32⟩
  | 122 => ⟨S2048x1024x1, .i32⟩
  | 123 => ⟨S2048x1024x1, .i1⟩
  | 124 => ⟨S_, .i32⟩
  | 125 => ⟨S2048x1024x1, .i32⟩
  | 126 => ⟨S2048x1024x1, .i32⟩
  | 127 => ⟨S2048x1024x1, .i32⟩
  | _ => ⟨S1, .f32⟩

abbrev hbmTy0_1 (i : Nat) : BufTy := match i % 128 with
  | 0 => ⟨S2048x1024x1x1, .i32⟩
  | 1 => ⟨S1, .i32⟩
  | 2 => ⟨S_, .i32⟩
  | 3 => ⟨S2048x1024x1x1, .i32⟩
  | 4 => ⟨S2048x1024x1x1, .i1⟩
  | 5 => ⟨S1x1x1x1, .i32⟩
  | 6 => ⟨S2048x1024x1x1, .i32⟩
  | 7 => ⟨S2048x1024x1x1, .i1⟩
  | 8 => ⟨S2048x1024x1x1, .i1⟩
  | 9 => ⟨S_, .i1⟩
  | 10 => ⟨S2048x1024x1, .i1⟩
  | 11 => ⟨S2048x1024x1, .f32⟩
  | 12 => ⟨S_, .f32⟩
  | 13 => ⟨S2048x1024x1, .f32⟩
  | 14 => ⟨S2048x1024x1, .f32⟩
  | 15 => ⟨S_, .i32⟩
  | 16 => ⟨S2048x1024x1, .i32⟩
  | 17 => ⟨S2048x1024x1, .i32⟩
  | 18 => ⟨S_, .i32⟩
  | 19 => ⟨S2048x1024x1, .i32⟩
  | 20 => ⟨S2048x1024x1, .i1⟩
  | 21 => ⟨S_, .i32⟩
  | 22 => ⟨S2048x1024x1, .i32⟩
  | 23 => ⟨S2048x1024x1, .i32⟩
  | 24 => ⟨S2048x1024x1, .i32⟩
  | 25 => ⟨S2048x1024x1x1, .i32⟩
  | 26 => ⟨S1, .i32⟩
  | 27 => ⟨S_, .i32⟩
  | 28 => ⟨S2048x1024x1x1, .i32⟩
  | 29 => ⟨S2048x1024x1x1, .i1⟩
  | 30 => ⟨S1x1x1x1, .i32⟩
  | 31 => ⟨S2048x1024x1x1, .i32⟩
  | 32 => ⟨S2048x1024x1x1, .i1⟩
  | 33 => ⟨S2048x1024x1x1, .i1⟩
  | 34 => ⟨S_, .i1⟩
  | 35 => ⟨S2048x1024x1, .i1⟩
  | 36 => ⟨S2048x1024x1, .f32⟩
  | 37 => ⟨S_, .f32⟩
  | 38 => ⟨S2048x1024x1, .f32⟩
  | 39 => ⟨S2048x1024x1, .f32⟩
  | 40 => ⟨S_, .i32⟩
  | 41 => ⟨S2048x1024x1, .i32⟩
  | 42 => ⟨S2048x1024x1, .i1⟩
  | 43 => ⟨S_, .i32⟩
  | 44 => ⟨S2048x1024x1, .i32⟩
  | 45 => ⟨S2048x1024x1, .i32⟩
  | 46 => ⟨S2048x1024x1, .i32⟩
  | 47 => ⟨S2048x1024x1x1, .i32⟩
  | 48 => ⟨S1, .i32⟩
  | 49 => ⟨S_, .i32⟩
  | 50 => ⟨S2048x1024x1x1, .i32⟩
  | 51 => ⟨S2048x1024x1x1, .i1⟩
  | 52 => ⟨S1x1x1x1, .i32⟩
  | 53 => ⟨S2048x1024x1x1, .i32⟩
  | 54 => ⟨S2048x1024x1x1, .i1⟩
  | 55 => ⟨S2048x1024x1x1, .i1⟩
  | 56 => ⟨S_, .i1⟩
  | 57 => ⟨S2048x1024x1, .i1⟩
  | 58 => ⟨S2048x1024x1, .f32⟩
  | 59 => ⟨S_, .f32⟩
  | 60 => ⟨S2048x1024x1, .f32⟩
  | 61 => ⟨S2048x1024x1, .f32⟩
  | 62 => ⟨S_, .i32⟩
  | 63 => ⟨S2048x1024x1, .i32⟩
  | 64 => ⟨S2048x1024x1, .i1⟩
  | 65 => ⟨S_, .i32⟩
  | 66 => ⟨S2048x1024x1, .i32⟩
  | 67 => ⟨S2048x1024x1, .i32⟩
  | 68 => ⟨S2048x1024x1, .i32⟩
  | 69 => ⟨S2048x1024x1x1, .i32⟩
  | 70 => ⟨S1, .i32⟩
  | 71 => ⟨S_, .i32⟩
  | 72 => ⟨S2048x1024x1x1, .i32⟩
  | 73 => ⟨S2048x1024x1x1, .i1⟩
  | 74 => ⟨S1x1x1x1, .i32⟩
  | 75 => ⟨S2048x1024x1x1, .i32⟩
  | 76 => ⟨S2048x1024x1x1, .i1⟩
  | 77 => ⟨S2048x1024x1x1, .i1⟩
  | 78 => ⟨S_, .i1⟩
  | 79 => ⟨S2048x1024x1, .i1⟩
  | 80 => ⟨S2048x1024x1, .f32⟩
  | 81 => ⟨S_, .f32⟩
  | 82 => ⟨S2048x1024x1, .f32⟩
  | 83 => ⟨S2048x1024x1, .f32⟩
  | 84 => ⟨S2048x1024x1, .f32⟩
  | 85 => ⟨S2048x1024x1, .f32⟩
  | 86 => ⟨S2048x1024x1, .f32⟩
  | 87 => ⟨S2048x1024x1, .f32⟩
  | 88 => ⟨S2048x1024x1, .f32⟩
  | 89 => ⟨S2048x1024x1, .f32⟩
  | 90 => ⟨S2048x1024x1, .f32⟩
  | 91 => ⟨S_, .f32⟩
  | 92 => ⟨S2048x1024x1, .f32⟩
  | 93 => ⟨S2048x1024x1, .f32⟩
  | 94 => ⟨S2048x1024x1, .f32⟩
  | 95 => ⟨S2048x1024x1, .f32⟩
  | 96 => ⟨S2048x1024x1, .f32⟩
  | 97 => ⟨S2048x1024x1, .f32⟩
  | 98 => ⟨S2048x1024, .f32⟩
  | 99 => ⟨S2048x2048, .f32⟩
  | 100 => ⟨S2048x1024x1, .f32⟩
  | 101 => ⟨S2048x1024x1, .f32⟩
  | 102 => ⟨S2048x1024x1, .f32⟩
  | 103 => ⟨S2048x1024x1, .f32⟩
  | 104 => ⟨S_, .f32⟩
  | 105 => ⟨S2048x1, .f32⟩
  | 106 => ⟨S2048x1, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_cst_3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_8 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_9 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_10 : Ref sig .tc := ⟨.hbm, 59, rfl⟩
abbrev main_v47 : Ref sig .tc := ⟨.hbm, 60, rfl⟩
abbrev main_call0_call0_cst : Ref sig .tc := ⟨.hbm, 61, rfl⟩
abbrev main_call0_call0_v0 : Ref sig .tc := ⟨.hbm, 62, rfl⟩
abbrev main_v48 : Ref sig .tc := ⟨.hbm, 63, rfl⟩
abbrev main_v49 : Ref sig .tc := ⟨.hbm, 64, rfl⟩
abbrev main_cst_11 : Ref sig .tc := ⟨.hbm, 65, rfl⟩
abbrev main_v50 : Ref sig .tc := ⟨.hbm, 66, rfl⟩
abbrev main_v51 : Ref sig .tc := ⟨.hbm, 67, rfl⟩
abbrev main_cst_12 : Ref sig .tc := ⟨.hbm, 68, rfl⟩
abbrev main_v52 : Ref sig .tc := ⟨.hbm, 69, rfl⟩
abbrev main_cst_13 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_call1_call0_cst : Ref sig .tc := ⟨.hbm, 77, rfl⟩
abbrev main_call1_call0_v0 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c : Ref sig .tc := ⟨.hbm, 85, rfl⟩
abbrev main_v65 : Ref sig .tc := ⟨.hbm, 86, rfl⟩
abbrev main_v66 : Ref sig .tc := ⟨.hbm, 87, rfl⟩
abbrev main_c_14 : Ref sig .tc := ⟨.hbm, 88, rfl⟩
abbrev main_v67 : Ref sig .tc := ⟨.hbm, 89, rfl⟩
abbrev main_v68 : Ref sig .tc := ⟨.hbm, 90, rfl⟩
abbrev main_c_15 : Ref sig .tc := ⟨.hbm, 91, rfl⟩
abbrev main_c_16 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v69 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_cst : Ref sig .tc := ⟨.hbm, 118, rfl⟩
abbrev main_call3_v14 : Ref sig .tc := ⟨.hbm, 119, rfl⟩
abbrev main_v70 : Ref sig .tc := ⟨.hbm, 120, rfl⟩
abbrev main_call4_c : Ref sig .tc := ⟨.hbm, 121, rfl⟩
abbrev main_call4_v0 : Ref sig .tc := ⟨.hbm, 122, rfl⟩
abbrev main_call4_v1 : Ref sig .tc := ⟨.hbm, 123, rfl⟩
abbrev main_call4_c_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_c_1 : Ref sig .tc := ⟨.hbm, 129, rfl⟩
abbrev main_call4_c_2 : Ref sig .tc := ⟨.hbm, 130, rfl⟩
abbrev main_call4_v6 : Ref sig .tc := ⟨.hbm, 131, rfl⟩
abbrev main_call4_v7 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_c_3 : Ref sig .tc := ⟨.hbm, 137, rfl⟩
abbrev main_call4_v12 : Ref sig .tc := ⟨.hbm, 138, rfl⟩
abbrev main_call4_v13 : Ref sig .tc := ⟨.hbm, 139, rfl⟩
abbrev main_call4_cst : Ref sig .tc := ⟨.hbm, 140, rfl⟩
abbrev main_call4_v14 : Ref sig .tc := ⟨.hbm, 141, rfl⟩
abbrev main_v71 : Ref sig .tc := ⟨.hbm, 142, rfl⟩
abbrev main_c_17 : Ref sig .tc := ⟨.hbm, 143, rfl⟩
abbrev main_v72 : Ref sig .tc := ⟨.hbm, 144, rfl⟩
abbrev main_v73 : Ref sig .tc := ⟨.hbm, 145, rfl⟩
abbrev main_call5_c : Ref sig .tc := ⟨.hbm, 146, rfl⟩
abbrev main_call5_v0 : Ref sig .tc := ⟨.hbm, 147, rfl⟩
abbrev main_call5_v1 : Ref sig .tc := ⟨.hbm, 148, rfl⟩
abbrev main_call5_c_0 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_c_1 : Ref sig .tc := ⟨.hbm, 154, rfl⟩
abbrev main_call5_c_2 : Ref sig .tc := ⟨.hbm, 155, rfl⟩
abbrev main_call5_v6 : Ref sig .tc := ⟨.hbm, 156, rfl⟩
abbrev main_call5_v7 : Ref sig .tc := ⟨.hbm, 157, rfl⟩
abbrev main_call5_v8 : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_c_3 : Ref sig .tc := ⟨.hbm, 162, rfl⟩
abbrev main_call5_v12 : Ref sig .tc := ⟨.hbm, 163, rfl⟩
abbrev main_call5_v13 : Ref sig .tc := ⟨.hbm, 164, rfl⟩
abbrev main_call5_cst : Ref sig .tc := ⟨.hbm, 165, rfl⟩
abbrev main_call5_v14 : Ref sig .tc := ⟨.hbm, 166, rfl⟩
abbrev main_v74 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_cst : Ref sig .tc := ⟨.hbm, 187, rfl⟩
abbrev main_call6_v14 : Ref sig .tc := ⟨.hbm, 188, rfl⟩
abbrev main_v75 : Ref sig .tc := ⟨.hbm, 189, rfl⟩
abbrev main_call7_c : Ref sig .tc := ⟨.hbm, 190, rfl⟩
abbrev main_call7_v0 : Ref sig .tc := ⟨.hbm, 191, rfl⟩
abbrev main_call7_v1 : Ref sig .tc := ⟨.hbm, 192, rfl⟩
abbrev main_call7_c_0 : Ref sig .tc := ⟨.hbm, 193, rfl⟩
abbrev main_call7_v2 : Ref sig .tc := ⟨.hbm, 194, rfl⟩
abbrev main_call7_v3 : Ref sig .tc := ⟨.hbm, 195, rfl⟩
abbrev main_call7_v4 : Ref sig .tc := ⟨.hbm, 196, rfl⟩
abbrev main_call7_v5 : Ref sig .tc := ⟨.hbm, 197, rfl⟩
abbrev main_call7_c_1 : Ref sig .tc := ⟨.hbm, 198, rfl⟩
abbrev main_call7_c_2 : Ref sig .tc := ⟨.hbm, 199, rfl⟩
abbrev main_call7_v6 : Ref sig .tc := ⟨.hbm, 200, rfl⟩
abbrev main_call7_v7 : Ref sig .tc := ⟨.hbm, 201, rfl⟩
abbrev main_call7_v8 : Ref sig .tc := ⟨.hbm, 202, rfl⟩
abbrev main_call7_v9 : Ref sig .tc := ⟨.hbm, 203, rfl⟩
abbrev main_call7_v10 : Ref sig .tc := ⟨.hbm, 204, rfl⟩
abbrev main_call7_v11 : Ref sig .tc := ⟨.hbm, 205, rfl⟩
abbrev main_call7_c_3 : Ref sig .tc := ⟨.hbm, 206, rfl⟩
abbrev main_call7_v12 : Ref sig .tc := ⟨.hbm, 207, rfl⟩
abbrev main_call7_v13 : Ref sig .tc := ⟨.hbm, 208, rfl⟩
abbrev main_call7_cst : Ref sig .tc := ⟨.hbm, 209, rfl⟩
abbrev main_call7_v14 : Ref sig .tc := ⟨.hbm, 210, rfl⟩
abbrev main_v76 : Ref sig .tc := ⟨.hbm, 211, rfl⟩
abbrev main_v77 : Ref sig .tc := ⟨.hbm, 212, rfl⟩
abbrev main_v78 : Ref sig .tc := ⟨.hbm, 213, rfl⟩
abbrev main_v79 : Ref sig .tc := ⟨.hbm, 214, rfl⟩
abbrev main_v80 : Ref sig .tc := ⟨.hbm, 215, rfl⟩
abbrev main_v81 : Ref sig .tc := ⟨.hbm, 216, rfl⟩
abbrev main_v82 : Ref sig .tc := ⟨.hbm, 217, rfl⟩
abbrev main_v83 : Ref sig .tc := ⟨.hbm, 218, rfl⟩
abbrev main_cst_18 : Ref sig .tc := ⟨.hbm, 219, rfl⟩
abbrev main_v84 : Ref sig .tc := ⟨.hbm, 220, rfl⟩
abbrev main_v85 : Ref sig .tc := ⟨.hbm, 221, rfl⟩
abbrev main_v86 : Ref sig .tc := ⟨.hbm, 222, rfl⟩
abbrev main_v87 : Ref sig .tc := ⟨.hbm, 223, rfl⟩
abbrev main_v88 : Ref sig .tc := ⟨.hbm, 224, rfl⟩
abbrev main_v89 : Ref sig .tc := ⟨.hbm, 225, rfl⟩
abbrev main_v90 : Ref sig .tc := ⟨.hbm, 226, rfl⟩
abbrev main_v91 : Ref sig .tc := ⟨.hbm, 227, rfl⟩
abbrev main_v92 : Ref sig .tc := ⟨.hbm, 228, rfl⟩
abbrev main_v93 : Ref sig .tc := ⟨.hbm, 229, rfl⟩
abbrev main_v94 : Ref sig .tc := ⟨.hbm, 230, rfl⟩
abbrev main_v95 : Ref sig .tc := ⟨.hbm, 231, rfl⟩
abbrev main_cst_19 : Ref sig .tc := ⟨.hbm, 232, rfl⟩
abbrev main_v96 : Ref sig .tc := ⟨.hbm, 233, rfl⟩
abbrev main_v97 : Ref sig .tc := ⟨.hbm, 234, rfl⟩

abbrev nD : Nat := 1
abbrev τ : Topo := Topo.v7x

variable {F : FTy → Type} [FloatOps F]
-- ==== LiteralIdeal.lean ====
abbrev S1 : Shape := ⟨1, ![1]⟩
abbrev S2048x2048 : Shape := ⟨2, ![2048, 2048]⟩
abbrev S_ : Shape := ⟨0, ![]⟩
abbrev S2048x1 : Shape := ⟨2, ![2048, 1]⟩
abbrev S1024x64 : Shape := ⟨2, ![1024, 64]⟩
abbrev S64 : Shape := ⟨1, ![64]⟩
abbrev S64x17408 : Shape := ⟨2, ![64, 17408]⟩
abbrev S17408 : Shape := ⟨1, ![17408]⟩
abbrev S2048x1024 : Shape := ⟨2, ![2048, 1024]⟩
abbrev S2048x64 : Shape := ⟨2, ![2048, 64]⟩
abbrev S1x64 : Shape := ⟨2, ![1, 64]⟩
abbrev S2048x17408 : Shape := ⟨2, ![2048, 17408]⟩
abbrev S1x17408 : Shape := ⟨2, ![1, 17408]⟩
abbrev S2048x1024x17 : Shape := ⟨3, ![2048, 1024, 17]⟩
abbrev S2048x1024x9 : Shape := ⟨3, ![2048, 1024, 9]⟩
abbrev S2048x1024x8 : Shape := ⟨3, ![2048, 1024, 8]⟩
abbrev S2048x1024x1 : Shape := ⟨3, ![2048, 1024, 1]⟩
abbrev S2048x1024x1x1 : Shape := ⟨4, ![2048, 1024, 1, 1]⟩
abbrev S1x1x1x1 : Shape := ⟨4, ![1, 1, 1, 1]⟩

abbrev nBuf : Space → Nat
  | .hbm => 235
  | .vmem => 0
  | .smem => 0
  | _ => 0

abbrev hbmTy0_0 (i : Nat) : BufTy := match i % 128 with
  | 0 => ⟨S1, .f32⟩
  | 1 => ⟨S2048x2048, .f32⟩
  | 2 => ⟨S_, .f32⟩
  | 3 => ⟨S2048x1, .f32⟩
  | 4 => ⟨S_, .f32⟩
  | 5 => ⟨S1024x64, .f32⟩
  | 6 => ⟨S_, .f32⟩
  | 7 => ⟨S64, .f32⟩
  | 8 => ⟨S_, .f32⟩
  | 9 => ⟨S64x17408, .f32⟩
  | 10 => ⟨S_, .f32⟩
  | 11 => ⟨S17408, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S2048x64, .f32⟩
  | 18 => ⟨S1x64, .f32⟩
  | 19 => ⟨S2048x64, .f32⟩
  | 20 => ⟨S2048x64, .f32⟩
  | 21 => ⟨S2048x64, .f32⟩
  | 22 => ⟨S2048x17408, .f32⟩
  | 23 => ⟨S1x17408, .f32⟩
  | 24 => ⟨S2048x17408, .f32⟩
  | 25 => ⟨S2048x17408, .f32⟩
  | 26 => ⟨S2048x17408, .f32⟩
  | 27 => ⟨S2048x1024x17, .f32⟩
  | 28 => ⟨S2048x1024x9, .f32⟩
  | 29 => ⟨S2048x1024x8, .f32⟩
  | 30 => ⟨S_, .f32⟩
  | 31 => ⟨S2048x1024, .f32⟩
  | 32 => ⟨S_, .f32⟩
  | 33 => ⟨S2048x1024, .f32⟩
  | 34 => ⟨S2048x1024, .f32⟩
  | 35 => ⟨S2048x1024x1, .f32⟩
  | 36 => ⟨S2048x1024x8, .f32⟩
  | 37 => ⟨S2048x1024x8, .f32⟩
  | 38 => ⟨S2048x1024x8, .f32⟩
  | 39 => ⟨S_, .f32⟩
  | 40 => ⟨S2048x1024, .f32⟩
  | 41 => ⟨S2048x1024x1, .f32⟩
  | 42 => ⟨S2048x1024x8, .f32⟩
  | 43 => ⟨S2048x1024x8, .f32⟩
  | 44 => ⟨S_, .f32⟩
  | 45 => ⟨S2048x1024x8, .f32⟩
  | 46 => ⟨S2048x1024x8, .f32⟩
  | 47 => ⟨S2048x1024x8, .f32⟩
  | 48 => ⟨S2048x1024x8, .f32⟩
  | 49 => ⟨S2048x1024x8, .f32⟩
  | 50 => ⟨S2048x1024x8, .f32⟩
  | 51 => ⟨S2048x1024x8, .f32⟩
  | 52 => ⟨S2048x1024x8, .f32⟩
  | 53 => ⟨S_, .f32⟩
  | 54 => ⟨S2048x1024, .f32⟩
  | 55 => ⟨S2048x1024x1, .f32⟩
  | 56 => ⟨S2048x1024x9, .f32⟩
  | 57 => ⟨S2048x1024x9, .f32⟩
  | 58 => ⟨S2048x1024x9, .f32⟩
  | 59 => ⟨S_, .f32⟩
  | 60 => ⟨S2048x1024x1, .f32⟩
  | 61 => ⟨S_, .f32⟩
  | 62 => ⟨S2048x1024x1, .f32⟩
  | 63 => ⟨S2048x1024x1, .f32⟩
  | 64 => ⟨S_, .f32⟩
  | 65 => ⟨S_, .f32⟩
  | 66 => ⟨S2048x1024x8, .f32⟩
  | 67 => ⟨S2048x1024x9, .f32⟩
  | 68 => ⟨S_, .f32⟩
  | 69 => ⟨S2048x1024x1, .f32⟩
  | 70 => ⟨S_, .f32⟩
  | 71 => ⟨S2048x1024x8, .f32⟩
  | 72 => ⟨S2048x1024x8, .f32⟩
  | 73 => ⟨S2048x1024x8, .f32⟩
  | 74 => ⟨S2048x1024x8, .f32⟩
  | 75 => ⟨S2048x1024x8, .f32⟩
  | 76 => ⟨S2048x1024x8, .f32⟩
  | 77 => ⟨S_, .f32⟩
  | 78 => ⟨S_, .f32⟩
  | 79 => ⟨S2048x1024x8, .f32⟩
  | 80 => ⟨S2048x1024x9, .f32⟩
  | 81 => ⟨S2048x1024x1, .f32⟩
  | 82 => ⟨S2048x1024x9, .f32⟩
  | 83 => ⟨S2048x1024x9, .i1⟩
  | 84 => ⟨S2048x1024x9, .i32⟩
  | 85 => ⟨S_, .i32⟩
  | 86 => ⟨S2048x1024, .i32⟩
  | 87 => ⟨S2048x1024x1, .i32⟩
  | 88 => ⟨S_, .i32⟩
  | 89 => ⟨S2048x1024x1, .i32⟩
  | 90 => ⟨S2048x1024x1, .i32⟩
  | 91 => ⟨S_, .i32⟩
  | 92 => ⟨S_, .i32⟩
  | 93 => ⟨S_, .i32⟩
  | 94 => ⟨S2048x1024x1, .i32⟩
  | 95 => ⟨S2048x1024x1, .i32⟩
  | 96 => ⟨S_, .i32⟩
  | 97 => ⟨S2048x1024x1, .i32⟩
  | 98 => ⟨S2048x1024x1, .i32⟩
  | 99 => ⟨S_, .i32⟩
  | 100 => ⟨S2048x1024x1, .i32⟩
  | 101 => ⟨S2048x1024x1, .i1⟩
  | 102 => ⟨S_, .i32⟩
  | 103 => ⟨S2048x1024x1, .i32⟩
  | 104 => ⟨S2048x1024x1, .i32⟩
  | 105 => ⟨S2048x1024x1, .i32⟩
  | 106 => ⟨S2048x1024x1x1, .i32⟩
  | 107 => ⟨S1, .i32⟩
  | 108 => ⟨S_, .i32⟩
  | 109 => ⟨S2048x1024x1x1, .i32⟩
  | 110 => ⟨S2048x1024x1x1, .i1⟩
  | 111 => ⟨S1x1x1x1, .i32⟩
  | 112 => ⟨S2048x1024x1x1, .i32⟩
  | 113 => ⟨S2048x1024x1x1, .i1⟩
  | 114 => ⟨S2048x1024x1x1, .i1⟩
  | 115 => ⟨S_, .i1⟩
  | 116 => ⟨S2048x1024x1, .i1⟩
  | 117 => ⟨S2048x1024x1, .f32⟩
  | 118 => ⟨S_, .f32⟩
  | 119 => ⟨S2048x1024x1, .f32⟩
  | 120 => ⟨S2048x1024x1, .f32⟩
  | 121 => ⟨S_, .i32⟩
  | 122 => ⟨S2048x1024x1, .i32⟩
  | 123 => ⟨S2048x1024x1, .i1⟩
  | 124 => ⟨S_, .i32⟩
  | 125 => ⟨S2048x1024x1, .i32⟩
  | 126 => ⟨S2048x1024x1, .i32⟩
  | 127 => ⟨S2048x1024x1, .i32⟩
  | _ => ⟨S1, .f32⟩

abbrev hbmTy0_1 (i : Nat) : BufTy := match i % 128 with
  | 0 => ⟨S2048x1024x1x1, .i32⟩
  | 1 => ⟨S1, .i32⟩
  | 2 => ⟨S_, .i32⟩
  | 3 => ⟨S2048x1024x1x1, .i32⟩
  | 4 => ⟨S2048x1024x1x1, .i1⟩
  | 5 => ⟨S1x1x1x1, .i32⟩
  | 6 => ⟨S2048x1024x1x1, .i32⟩
  | 7 => ⟨S2048x1024x1x1, .i1⟩
  | 8 => ⟨S2048x1024x1x1, .i1⟩
  | 9 => ⟨S_, .i1⟩
  | 10 => ⟨S2048x1024x1, .i1⟩
  | 11 => ⟨S2048x1024x1, .f32⟩
  | 12 => ⟨S_, .f32⟩
  | 13 => ⟨S2048x1024x1, .f32⟩
  | 14 => ⟨S2048x1024x1, .f32⟩
  | 15 => ⟨S_, .i32⟩
  | 16 => ⟨S2048x1024x1, .i32⟩
  | 17 => ⟨S2048x1024x1, .i32⟩
  | 18 => ⟨S_, .i32⟩
  | 19 => ⟨S2048x1024x1, .i32⟩
  | 20 => ⟨S2048x1024x1, .i1⟩
  | 21 => ⟨S_, .i32⟩
  | 22 => ⟨S2048x1024x1, .i32⟩
  | 23 => ⟨S2048x1024x1, .i32⟩
  | 24 => ⟨S2048x1024x1, .i32⟩
  | 25 => ⟨S2048x1024x1x1, .i32⟩
  | 26 => ⟨S1, .i32⟩
  | 27 => ⟨S_, .i32⟩
  | 28 => ⟨S2048x1024x1x1, .i32⟩
  | 29 => ⟨S2048x1024x1x1, .i1⟩
  | 30 => ⟨S1x1x1x1, .i32⟩
  | 31 => ⟨S2048x1024x1x1, .i32⟩
  | 32 => ⟨S2048x1024x1x1, .i1⟩
  | 33 => ⟨S2048x1024x1x1, .i1⟩
  | 34 => ⟨S_, .i1⟩
  | 35 => ⟨S2048x1024x1, .i1⟩
  | 36 => ⟨S2048x1024x1, .f32⟩
  | 37 => ⟨S_, .f32⟩
  | 38 => ⟨S2048x1024x1, .f32⟩
  | 39 => ⟨S2048x1024x1, .f32⟩
  | 40 => ⟨S_, .i32⟩
  | 41 => ⟨S2048x1024x1, .i32⟩
  | 42 => ⟨S2048x1024x1, .i1⟩
  | 43 => ⟨S_, .i32⟩
  | 44 => ⟨S2048x1024x1, .i32⟩
  | 45 => ⟨S2048x1024x1, .i32⟩
  | 46 => ⟨S2048x1024x1, .i32⟩
  | 47 => ⟨S2048x1024x1x1, .i32⟩
  | 48 => ⟨S1, .i32⟩
  | 49 => ⟨S_, .i32⟩
  | 50 => ⟨S2048x1024x1x1, .i32⟩
  | 51 => ⟨S2048x1024x1x1, .i1⟩
  | 52 => ⟨S1x1x1x1, .i32⟩
  | 53 => ⟨S2048x1024x1x1, .i32⟩
  | 54 => ⟨S2048x1024x1x1, .i1⟩
  | 55 => ⟨S2048x1024x1x1, .i1⟩
  | 56 => ⟨S_, .i1⟩
  | 57 => ⟨S2048x1024x1, .i1⟩
  | 58 => ⟨S2048x1024x1, .f32⟩
  | 59 => ⟨S_, .f32⟩
  | 60 => ⟨S2048x1024x1, .f32⟩
  | 61 => ⟨S2048x1024x1, .f32⟩
  | 62 => ⟨S_, .i32⟩
  | 63 => ⟨S2048x1024x1, .i32⟩
  | 64 => ⟨S2048x1024x1, .i1⟩
  | 65 => ⟨S_, .i32⟩
  | 66 => ⟨S2048x1024x1, .i32⟩
  | 67 => ⟨S2048x1024x1, .i32⟩
  | 68 => ⟨S2048x1024x1, .i32⟩
  | 69 => ⟨S2048x1024x1x1, .i32⟩
  | 70 => ⟨S1, .i32⟩
  | 71 => ⟨S_, .i32⟩
  | 72 => ⟨S2048x1024x1x1, .i32⟩
  | 73 => ⟨S2048x1024x1x1, .i1⟩
  | 74 => ⟨S1x1x1x1, .i32⟩
  | 75 => ⟨S2048x1024x1x1, .i32⟩
  | 76 => ⟨S2048x1024x1x1, .i1⟩
  | 77 => ⟨S2048x1024x1x1, .i1⟩
  | 78 => ⟨S_, .i1⟩
  | 79 => ⟨S2048x1024x1, .i1⟩
  | 80 => ⟨S2048x1024x1, .f32⟩
  | 81 => ⟨S_, .f32⟩
  | 82 => ⟨S2048x1024x1, .f32⟩
  | 83 => ⟨S2048x1024x1, .f32⟩
  | 84 => ⟨S2048x1024x1, .f32⟩
  | 85 => ⟨S2048x1024x1, .f32⟩
  | 86 => ⟨S2048x1024x1, .f32⟩
  | 87 => ⟨S2048x1024x1, .f32⟩
  | 88 => ⟨S2048x1024x1, .f32⟩
  | 89 => ⟨S2048x1024x1, .f32⟩
  | 90 => ⟨S2048x1024x1, .f32⟩
  | 91 => ⟨S_, .f32⟩
  | 92 => ⟨S2048x1024x1, .f32⟩
  | 93 => ⟨S2048x1024x1, .f32⟩
  | 94 => ⟨S2048x1024x1, .f32⟩
  | 95 => ⟨S2048x1024x1, .f32⟩
  | 96 => ⟨S2048x1024x1, .f32⟩
  | 97 => ⟨S2048x1024x1, .f32⟩
  | 98 => ⟨S2048x1024, .f32⟩
  | 99 => ⟨S2048x2048, .f32⟩
  | 100 => ⟨S2048x1024x1, .f32⟩
  | 101 => ⟨S2048x1024x1, .f32⟩
  | 102 => ⟨S2048x1024x1, .f32⟩
  | 103 => ⟨S2048x1024x1, .f32⟩
  | 104 => ⟨S_, .f32⟩
  | 105 => ⟨S2048x1, .f32⟩
  | 106 => ⟨S2048x1, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_cst_3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_8 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_9 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_10 : Ref sig .tc := ⟨.hbm, 59, rfl⟩
abbrev main_v47 : Ref sig .tc := ⟨.hbm, 60, rfl⟩
abbrev main_cst_11 : Ref sig .tc := ⟨.hbm, 61, rfl⟩
abbrev main_v48 : Ref sig .tc := ⟨.hbm, 62, rfl⟩
abbrev main_v49 : Ref sig .tc := ⟨.hbm, 63, rfl⟩
abbrev main_call0_call0_cst : Ref sig .tc := ⟨.hbm, 64, rfl⟩
abbrev main_call0_call0_v0 : Ref sig .tc := ⟨.hbm, 65, rfl⟩
abbrev main_v50 : Ref sig .tc := ⟨.hbm, 66, rfl⟩
abbrev main_v51 : Ref sig .tc := ⟨.hbm, 67, rfl⟩
abbrev main_cst_12 : Ref sig .tc := ⟨.hbm, 68, rfl⟩
abbrev main_v52 : Ref sig .tc := ⟨.hbm, 69, rfl⟩
abbrev main_cst_13 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_call1_call0_cst : Ref sig .tc := ⟨.hbm, 77, rfl⟩
abbrev main_call1_call0_v0 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c : Ref sig .tc := ⟨.hbm, 85, rfl⟩
abbrev main_v65 : Ref sig .tc := ⟨.hbm, 86, rfl⟩
abbrev main_v66 : Ref sig .tc := ⟨.hbm, 87, rfl⟩
abbrev main_c_14 : Ref sig .tc := ⟨.hbm, 88, rfl⟩
abbrev main_v67 : Ref sig .tc := ⟨.hbm, 89, rfl⟩
abbrev main_v68 : Ref sig .tc := ⟨.hbm, 90, rfl⟩
abbrev main_c_15 : Ref sig .tc := ⟨.hbm, 91, rfl⟩
abbrev main_c_16 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v69 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_cst : Ref sig .tc := ⟨.hbm, 118, rfl⟩
abbrev main_call3_v14 : Ref sig .tc := ⟨.hbm, 119, rfl⟩
abbrev main_v70 : Ref sig .tc := ⟨.hbm, 120, rfl⟩
abbrev main_call4_c : Ref sig .tc := ⟨.hbm, 121, rfl⟩
abbrev main_call4_v0 : Ref sig .tc := ⟨.hbm, 122, rfl⟩
abbrev main_call4_v1 : Ref sig .tc := ⟨.hbm, 123, rfl⟩
abbrev main_call4_c_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_c_1 : Ref sig .tc := ⟨.hbm, 129, rfl⟩
abbrev main_call4_c_2 : Ref sig .tc := ⟨.hbm, 130, rfl⟩
abbrev main_call4_v6 : Ref sig .tc := ⟨.hbm, 131, rfl⟩
abbrev main_call4_v7 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_c_3 : Ref sig .tc := ⟨.hbm, 137, rfl⟩
abbrev main_call4_v12 : Ref sig .tc := ⟨.hbm, 138, rfl⟩
abbrev main_call4_v13 : Ref sig .tc := ⟨.hbm, 139, rfl⟩
abbrev main_call4_cst : Ref sig .tc := ⟨.hbm, 140, rfl⟩
abbrev main_call4_v14 : Ref sig .tc := ⟨.hbm, 141, rfl⟩
abbrev main_v71 : Ref sig .tc := ⟨.hbm, 142, rfl⟩
abbrev main_c_17 : Ref sig .tc := ⟨.hbm, 143, rfl⟩
abbrev main_v72 : Ref sig .tc := ⟨.hbm, 144, rfl⟩
abbrev main_v73 : Ref sig .tc := ⟨.hbm, 145, rfl⟩
abbrev main_call5_c : Ref sig .tc := ⟨.hbm, 146, rfl⟩
abbrev main_call5_v0 : Ref sig .tc := ⟨.hbm, 147, rfl⟩
abbrev main_call5_v1 : Ref sig .tc := ⟨.hbm, 148, rfl⟩
abbrev main_call5_c_0 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_c_1 : Ref sig .tc := ⟨.hbm, 154, rfl⟩
abbrev main_call5_c_2 : Ref sig .tc := ⟨.hbm, 155, rfl⟩
abbrev main_call5_v6 : Ref sig .tc := ⟨.hbm, 156, rfl⟩
abbrev main_call5_v7 : Ref sig .tc := ⟨.hbm, 157, rfl⟩
abbrev main_call5_v8 : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_c_3 : Ref sig .tc := ⟨.hbm, 162, rfl⟩
abbrev main_call5_v12 : Ref sig .tc := ⟨.hbm, 163, rfl⟩
abbrev main_call5_v13 : Ref sig .tc := ⟨.hbm, 164, rfl⟩
abbrev main_call5_cst : Ref sig .tc := ⟨.hbm, 165, rfl⟩
abbrev main_call5_v14 : Ref sig .tc := ⟨.hbm, 166, rfl⟩
abbrev main_v74 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_cst : Ref sig .tc := ⟨.hbm, 187, rfl⟩
abbrev main_call6_v14 : Ref sig .tc := ⟨.hbm, 188, rfl⟩
abbrev main_v75 : Ref sig .tc := ⟨.hbm, 189, rfl⟩
abbrev main_call7_c : Ref sig .tc := ⟨.hbm, 190, rfl⟩
abbrev main_call7_v0 : Ref sig .tc := ⟨.hbm, 191, rfl⟩
abbrev main_call7_v1 : Ref sig .tc := ⟨.hbm, 192, rfl⟩
abbrev main_call7_c_0 : Ref sig .tc := ⟨.hbm, 193, rfl⟩
abbrev main_call7_v2 : Ref sig .tc := ⟨.hbm, 194, rfl⟩
abbrev main_call7_v3 : Ref sig .tc := ⟨.hbm, 195, rfl⟩
abbrev main_call7_v4 : Ref sig .tc := ⟨.hbm, 196, rfl⟩
abbrev main_call7_v5 : Ref sig .tc := ⟨.hbm, 197, rfl⟩
abbrev main_call7_c_1 : Ref sig .tc := ⟨.hbm, 198, rfl⟩
abbrev main_call7_c_2 : Ref sig .tc := ⟨.hbm, 199, rfl⟩
abbrev main_call7_v6 : Ref sig .tc := ⟨.hbm, 200, rfl⟩
abbrev main_call7_v7 : Ref sig .tc := ⟨.hbm, 201, rfl⟩
abbrev main_call7_v8 : Ref sig .tc := ⟨.hbm, 202, rfl⟩
abbrev main_call7_v9 : Ref sig .tc := ⟨.hbm, 203, rfl⟩
abbrev main_call7_v10 : Ref sig .tc := ⟨.hbm, 204, rfl⟩
abbrev main_call7_v11 : Ref sig .tc := ⟨.hbm, 205, rfl⟩
abbrev main_call7_c_3 : Ref sig .tc := ⟨.hbm, 206, rfl⟩
abbrev main_call7_v12 : Ref sig .tc := ⟨.hbm, 207, rfl⟩
abbrev main_call7_v13 : Ref sig .tc := ⟨.hbm, 208, rfl⟩
abbrev main_call7_cst : Ref sig .tc := ⟨.hbm, 209, rfl⟩
abbrev main_call7_v14 : Ref sig .tc := ⟨.hbm, 210, rfl⟩
abbrev main_v76 : Ref sig .tc := ⟨.hbm, 211, rfl⟩
abbrev main_v77 : Ref sig .tc := ⟨.hbm, 212, rfl⟩
abbrev main_v78 : Ref sig .tc := ⟨.hbm, 213, rfl⟩
abbrev main_v79 : Ref sig .tc := ⟨.hbm, 214, rfl⟩
abbrev main_v80 : Ref sig .tc := ⟨.hbm, 215, rfl⟩
abbrev main_v81 : Ref sig .tc := ⟨.hbm, 216, rfl⟩
abbrev main_v82 : Ref sig .tc := ⟨.hbm, 217, rfl⟩
abbrev main_v83 : Ref sig .tc := ⟨.hbm, 218, rfl⟩
abbrev main_cst_18 : Ref sig .tc := ⟨.hbm, 219, rfl⟩
abbrev main_v84 : Ref sig .tc := ⟨.hbm, 220, rfl⟩
abbrev main_v85 : Ref sig .tc := ⟨.hbm, 221, rfl⟩
abbrev main_v86 : Ref sig .tc := ⟨.hbm, 222, rfl⟩
abbrev main_v87 : Ref sig .tc := ⟨.hbm, 223, rfl⟩
abbrev main_v88 : Ref sig .tc := ⟨.hbm, 224, rfl⟩
abbrev main_v89 : Ref sig .tc := ⟨.hbm, 225, rfl⟩
abbrev main_v90 : Ref sig .tc := ⟨.hbm, 226, rfl⟩
abbrev main_v91 : Ref sig .tc := ⟨.hbm, 227, rfl⟩
abbrev main_v92 : Ref sig .tc := ⟨.hbm, 228, rfl⟩
abbrev main_v93 : Ref sig .tc := ⟨.hbm, 229, rfl⟩
abbrev main_v94 : Ref sig .tc := ⟨.hbm, 230, rfl⟩
abbrev main_v95 : Ref sig .tc := ⟨.hbm, 231, rfl⟩
abbrev main_cst_19 : Ref sig .tc := ⟨.hbm, 232, rfl⟩
abbrev main_v96 : Ref sig .tc := ⟨.hbm, 233, rfl⟩
abbrev main_v97 : Ref sig .tc := ⟨.hbm, 234, rfl⟩

abbrev nD : Nat := 1
abbrev τ : Topo := Topo.v7x

variable {F : FTy → Type} [FloatOps F]
-- ==== Proof.Blocks.lean ====
/- What one run of the kernel's body leaves in its buffers, as closed terms: the scratch holds the second weight matrix
   with its rows regrouped plane by plane (built at the first grid point, kept afterwards), the first output the
   untouched half of the input and the spline values, the second output the negated sum of the slopes' logarithms. -/
module

public import proofs.«01_k».proof.Proof.Gen.KernelIdeal.Frame
public import Idealize.ShloMosaic.Lib.Pipeline.Value
public import Idealize.ShloMosaic.Lib.Pointwise

@[expose] public section

set_option maxRecDepth 16384
set_option maxHeartbeats 4000000

noncomputable section

namespace Cert.Blocks

open Idealize.ShloMosaic Idealize.ShloMosaic.TcCoe Idealize.ShloMosaic.Tactic Idealize.ShloMosaic.Pointwise
open Cert.KernelIdeal Cert.KernelIdeal.Gen

/-- The extended reals, as a vector's elements. -/
abbrev E := Idealize.ShloMosaic.Ideal

/-- The transposed weights regrouped: column `j·1024 + c` is row `c·17 + j`. -/
def permuted (x3 : Vec E S17408x64 .f32) : Vec E S64x17408 .f32 :=
  fun y => x3 (ix2 ⟨(y 1).val % 1024 * 17 + (y 1).val / 1024, by have : (y 1).val < 17408 := (y 1).isLt; omega⟩ (y 0))

/-- At plane `j` of the regrouped weights. -/
theorem permuted_plane (x3 : Vec E S17408x64 .f32) (j off : ℕ) (hj : off = j * 1024) (h17 : j < 17)
    (inb : ∀ a, (![0, off] : Fin 2 → ℕ) a + (![64, 1024] : Fin 2 → ℕ) a ≤ S64x17408.size a) (k : Fin 64) (c : Fin 1024)
    (hb : c.val * 17 + j < 17408) :
    x3 (ix2 ⟨c.val * 17 + j, hb⟩ k) = permuted x3 ((Rect.unit (s := S64x17408) ![0, off] ![64, 1024] inb).emb (ix2 k c)) := by
  subst hj
  have hc := c.isLt
  have h0 : ((Rect.unit (s := S64x17408) ![0, j * 1024] ![64, 1024] inb).emb (ix2 k c) 0).val = k.val := by
    rw [Rect.emb_apply]; show 0 + 1 * k.val = k.val; omega
  have h1 : ((Rect.unit (s := S64x17408) ![0, j * 1024] ![64, 1024] inb).emb (ix2 k c) 1).val = j * 1024 + c.val := by
    rw [Rect.emb_apply]; show j * 1024 + 1 * c.val = _; omega
  unfold permuted
  refine congrArg x3 (Shape.idx_ext₂ ?_ ?_)
  · show c.val * 17 + j = _ % 1024 * 17 + _ / 1024
    rw [h1]; omega
  · exact h0.symm

/-- A load of the whole scratch after writes that agree with one function reads that function. -/
theorem load_scratch {sig : RefSig} {κ : Kind} {sp : Space} (v : View sig κ sp S64x17408 .f32)
    (L : List (View.Piece (Elt E) S64x17408 .f32)) (G : Vec E S64x17408 .f32)
    (inb : ∀ a, (![0, 0] : Fin 2 → ℕ) a + S64x17408.size a ≤ S64x17408.size a)
    (hL : ∀ p ∈ L, ∀ x : p.1.shape.Idx, p.2 x = G (p.1.emb x)) (hc : ∀ y, ∃ p ∈ L, y ∈ p.1.set) :
    v.readCov L (Rect.unit (s := S64x17408) ![0, 0] S64x17408.size inb).toLoadRect = G := by
  rw [View.readCov_eq_canon_ld _ _ _ hc, show View.canon L = G from funext fun y => View.canon_apply_of_pieces G L hL y (hc y)]
  exact View.ld_unit_zero (S := S64x17408) (funext fun a => by fin_cases a <;> rfl) inb G

theorem hz : (![0, 0] : Fin 2 → Nat) = fun _ => 0 := funext fun a => by fin_cases a <;> rfl

/-- The spline values of a block, from its coordinates and the net's planes. -/
def values (v4 v21 v22 v23 v24 v25 v26 v27 v28 v29 v33 v34 v35 v36 v37 v38 v39 v40 : FVec E S256x1024 .f32) :
    FVec E S256x1024 .f32 :=
  k0_pay91 (k0_pay41 v34) (k0_pay42 v35) (k0_pay43 v36) (k0_pay44 v37) (k0_pay50 v25) (k0_pay51 v26)
    (k0_pay52 v27) (k0_pay53 v28) (k0_pay54 v29)
    (k0_pay55 v4 v33 v34 v35 v36 v37 v38 v39 v40) (k0_pay65 v21 v22 v23 v24 v38 v39 v40)
    (k0_pay67 v4 v33 v34 v35 v36 v37 v38 v39 v40)
    (k0_pay68 v4 v21 v22 v23 v24 v33 v34 v35 v36 v37 v38 v39 v40)
    (k0_pay69 v4 v22 v23 v24 v25 v33 v34 v35 v36 v37 v38 v39 v40)
    (k0_pay70 v4 v33 v34 v35 v36 v37 v38 v39 v40)
    (k0_pay71 v4 v21 v22 v23 v24 v33 v34 v35 v36 v37 v38 v39 v40)
    (k0_pay72 v33 v34 v35 v36 v37 v38 v39 v40) (k0_pay73 v24 v25 v33)

/-- The slopes of a block. -/
def slopes (v4 v21 v22 v23 v24 v25 v26 v27 v28 v29 v33 v34 v35 v36 v37 v38 v39 v40 : FVec E S256x1024 .f32) :
    FVec E S256x1024 .f32 :=
  k0_pay92 (k0_pay41 v34) (k0_pay42 v35) (k0_pay43 v36) (k0_pay44 v37)
    (k0_pay45 v33 v34 v35 v36 v37 v38 v39 v40) (k0_pay50 v25) (k0_pay51 v26)
    (k0_pay52 v27) (k0_pay53 v28) (k0_pay54 v29)
    (k0_pay55 v4 v33 v34 v35 v36 v37 v38 v39 v40) (k0_pay65 v21 v22 v23 v24 v38 v39 v40)
    (k0_pay67 v4 v33 v34 v35 v36 v37 v38 v39 v40)
    (k0_pay68 v4 v21 v22 v23 v24 v33 v34 v35 v36 v37 v38 v39 v40)
    (k0_pay69 v4 v22 v23 v24 v25 v33 v34 v35 v36 v37 v38 v39 v40)
    (k0_pay70 v4 v33 v34 v35 v36 v37 v38 v39 v40)
    (k0_pay72 v33 v34 v35 v36 v37 v38 v39 v40) (k0_pay73 v24 v25 v33)

/-- The untouched half of an input block, and the half the spline transforms. -/
def half0 (x0 : Vec E S256x2048 .f32) : Vec E S256x1024 .f32 := View.ld x0 (Rect.unit ![0, 0] ![256, 1024] inb_S256x2048_S256x1024_0_0)
def half1 (x0 : Vec E S256x2048 .f32) : Vec E S256x1024 .f32 := View.ld x0 (Rect.unit ![0, 1024] ![256, 1024] inb_S256x2048_S256x1024_0_1024)

/-- A block's spline values from its operands: the input, the two layers' weights and biases (the second regrouped). -/
def blockValues (x0 : Vec E S256x2048 .f32) (x1 : Vec E S1024x64 .f32) (x2 : Vec E S1x64 .f32) (s : Vec E S64x17408 .f32)
    (x4 : Vec E S1x17408 .f32) : FVec E S256x1024 .f32 :=
  values (half1 x0) (k0_pay23 (half0 x0) x1 x2 s x4) (k0_pay24 (half0 x0) x1 x2 s x4) (k0_pay25 (half0 x0) x1 x2 s x4)
    (k0_pay26 (half0 x0) x1 x2 s x4) (k0_pay27 (half0 x0) x1 x2 s x4) (k0_pay28 (half0 x0) x1 x2 s x4)
    (k0_pay29 (half0 x0) x1 x2 s x4) (k0_pay30 (half0 x0) x1 x2 s x4) (k0_pay31 (half0 x0) x1 x2 s x4)
    (k0_pay32 (half0 x0) x1 x2 s x4) (k0_pay33 (half0 x0) x1 x2 s x4) (k0_pay34 (half0 x0) x1 x2 s x4)
    (k0_pay35 (half0 x0) x1 x2 s x4) (k0_pay36 (half0 x0) x1 x2 s x4) (k0_pay37 (half0 x0) x1 x2 s x4)
    (k0_pay38 (half0 x0) x1 x2 s x4) (k0_pay39 (half0 x0) x1 x2 s x4)

/-- A block's slopes. -/
def blockSlopes (x0 : Vec E S256x2048 .f32) (x1 : Vec E S1024x64 .f32) (x2 : Vec E S1x64 .f32) (s : Vec E S64x17408 .f32)
    (x4 : Vec E S1x17408 .f32) : FVec E S256x1024 .f32 :=
  slopes (half1 x0) (k0_pay23 (half0 x0) x1 x2 s x4) (k0_pay24 (half0 x0) x1 x2 s x4) (k0_pay25 (half0 x0) x1 x2 s x4)
    (k0_pay26 (half0 x0) x1 x2 s x4) (k0_pay27 (half0 x0) x1 x2 s x4) (k0_pay28 (half0 x0) x1 x2 s x4)
    (k0_pay29 (half0 x0) x1 x2 s x4) (k0_pay30 (half0 x0) x1 x2 s x4) (k0_pay31 (half0 x0) x1 x2 s x4)
    (k0_pay32 (half0 x0) x1 x2 s x4) (k0_pay33 (half0 x0) x1 x2 s x4) (k0_pay34 (half0 x0) x1 x2 s x4)
    (k0_pay35 (half0 x0) x1 x2 s x4) (k0_pay36 (half0 x0) x1 x2 s x4) (k0_pay37 (half0 x0) x1 x2 s x4)
    (k0_pay38 (half0 x0) x1 x2 s x4) (k0_pay39 (half0 x0) x1 x2 s x4)

/-- The first output's block: the untouched half beside the spline values. -/
def outPhi (x0 : Vec E S256x2048 .f32) (x1 : Vec E S1024x64 .f32) (x2 : Vec E S1x64 .f32) (s : Vec E S64x17408 .f32)
    (x4 : Vec E S1x17408 .f32) : Vec E S256x2048 .f32 := fun y =>
  if h : (y 1).val < 1024 then x0 y
  else blockValues x0 x1 x2 s x4 (ix2 (y 0) ⟨(y 1).val - 1024, by have : (y 1).val < 2048 := (y 1).isLt; omega⟩)

/-- The second output's block. -/
def outLog (x0 : Vec E S256x2048 .f32) (x1 : Vec E S1024x64 .f32) (x2 : Vec E S1x64 .f32) (s : Vec E S64x17408 .f32)
    (x4 : Vec E S1x17408 .f32) : Vec E S256x1 .f32 := k0_pay1 (blockSlopes x0 x1 x2 s x4)

theorem outPhi_left (x0 : Vec E S256x2048 .f32) (x1 : Vec E S1024x64 .f32) (x2 : Vec E S1x64 .f32) (s : Vec E S64x17408 .f32)
    (x4 : Vec E S1x17408 .f32) (inb) (x : S256x1024.Idx) :
    half0 x0 x = outPhi x0 x1 x2 s x4 ((Rect.unit (s := S256x2048) ![0, 0] ![256, 1024] inb).emb x) := by
  have h1 : ((Rect.unit (s := S256x2048) ![0, 0] ![256, 1024] inb).emb x 1).val = (x 1).val := by
    rw [Rect.emb_apply]; show 0 + 1 * (x 1).val = _; omega
  have hx : (x 1).val < 1024 := (x 1).isLt
  unfold outPhi
  rw [dif_pos (by omega)]
  rfl

theorem outPhi_right (x0 : Vec E S256x2048 .f32) (x1 : Vec E S1024x64 .f32) (x2 : Vec E S1x64 .f32) (s : Vec E S64x17408 .f32)
    (x4 : Vec E S1x17408 .f32) (inb) (x : S256x1024.Idx) :
    blockValues x0 x1 x2 s x4 x = outPhi x0 x1 x2 s x4 ((Rect.unit (s := S256x2048) ![0, 1024] ![256, 1024] inb).emb x) := by
  have h0 : ((Rect.unit (s := S256x2048) ![0, 1024] ![256, 1024] inb).emb x 0).val = (x 0).val := by
    rw [Rect.emb_apply]; show 0 + 1 * (x 0).val = _; omega
  have h1 : ((Rect.unit (s := S256x2048) ![0, 1024] ![256, 1024] inb).emb x 1).val = 1024 + (x 1).val := by
    rw [Rect.emb_apply]; show 1024 + 1 * (x 1).val = _; omega
  have hx : (x 1).val < 1024 := (x 1).isLt
  unfold outPhi
  rw [dif_neg (by omega)]
  refine congrArg _ (Shape.idx_ext₂ h0.symm ?_)
  show _ = _ - 1024
  omega

section
variable (c : Dev nD) (i : grid0.Coords) (arg1 : Memref sig .tc .vmem S256x2048 .f32) (harg1 : arg1.IsWhole)
  (arg2 : Memref sig .tc .vmem S1024x64 .f32) (harg2 : arg2.IsWhole) (arg3 : Memref sig .tc .vmem S1x64 .f32) (harg3 : arg3.IsWhole)
  (arg4 : Memref sig .tc .vmem S17408x64 .f32) (harg4 : arg4.IsWhole) (arg5 : Memref sig .tc .vmem S1x17408 .f32) (harg5 : arg5.IsWhole)
  (arg6 : Memref sig .tc .vmem S256x2048 .f32) (harg6 : arg6.IsWhole) (arg7 : Memref sig .tc .vmem S256x1 .f32) (harg7 : arg7.IsWhole)
  (arg8 : Memref sig .tc .vmem S64x17408 .f32) (harg8 : arg8.IsWhole)
  (x0 : Vec E S256x2048 .f32) (x1 : Vec E S1024x64 .f32) (x2 : Vec E S1x64 .f32) (x3 : Vec E S17408x64 .f32) (x4 : Vec E S1x17408 .f32)

/-- The first point's writes to the scratch all agree with the regrouped weights. -/
theorem scratch_pieces (hc0 : cond0_0 i) :
    ∀ p ∈ (kernelRun0_A c i arg1 harg1 arg2 harg2 arg3 harg3 arg4 harg4 arg5 harg5 arg6 harg6 arg7 harg7 arg8 harg8 hc0 x0 x1 x2 x3 x4).2.2.1,
      ∀ x : p.1.shape.Idx, p.2 x = permuted x3 (p.1.emb x) := by
  unfold kernelRun0_A; dsimp only; sl_unfold_words
  simp only [View.readAt_eq_ld, harg4.read_unread, List.forall_mem_cons]
  refine ⟨?_, ?_, ?_, ?_, ?_, ?_, ?_, ?_, ?_, ?_, ?_, ?_, ?_, ?_, ?_, ?_, ?_, fun _ h => absurd h List.not_mem_nil⟩
  · intro x; idx_vars x; pointwise; exact permuted_plane x3 16 _ rfl (by omega) _ _ _ _
  · intro x; idx_vars x; pointwise; exact permuted_plane x3 15 _ rfl (by omega) _ _ _ _
  · intro x; idx_vars x; pointwise; exact permuted_plane x3 14 _ rfl (by omega) _ _ _ _
  · intro x; idx_vars x; pointwise; exact permuted_plane x3 13 _ rfl (by omega) _ _ _ _
  · intro x; idx_vars x; pointwise; exact permuted_plane x3 12 _ rfl (by omega) _ _ _ _
  · intro x; idx_vars x; pointwise; exact permuted_plane x3 11 _ rfl (by omega) _ _ _ _
  · intro x; idx_vars x; pointwise; exact permuted_plane x3 10 _ rfl (by omega) _ _ _ _
  · intro x; idx_vars x; pointwise; exact permuted_plane x3 9 _ rfl (by omega) _ _ _ _
  · intro x; idx_vars x; pointwise; exact permuted_plane x3 8 _ rfl (by omega) _ _ _ _
  · intro x; idx_vars x; pointwise; exact permuted_plane x3 7 _ rfl (by omega) _ _ _ _
  · intro x; idx_vars x; pointwise; exact permuted_plane x3 6 _ rfl (by omega) _ _ _ _
  · intro x; idx_vars x; pointwise; exact permuted_plane x3 5 _ rfl (by omega) _ _ _ _
  · intro x; idx_vars x; pointwise; exact permuted_plane x3 4 _ rfl (by omega) _ _ _ _
  · intro x; idx_vars x; pointwise; exact permuted_plane x3 3 _ rfl (by omega) _ _ _ _
  · intro x; idx_vars x; pointwise; exact permuted_plane x3 2 _ rfl (by omega) _ _ _ _
  · intro x; idx_vars x; pointwise; exact permuted_plane x3 1 _ rfl (by omega) _ _ _ _
  · intro x; idx_vars x; pointwise; exact permuted_plane x3 0 _ rfl (by omega) _ _ _ _

/-- The scratch after the first point. -/
theorem scratch_A (hc0 : cond0_0 i) :
    sout0_A_0 c i arg1 harg1 arg2 harg2 arg3 harg3 arg4 harg4 arg5 harg5 arg6 harg6 arg7 harg7 arg8 harg8 hc0 x0 x1 x2 x3 x4 = permuted x3 := by
  unfold sout0_A_0
  rw [View.read_writes_junk_eq_canon]
  exact funext fun y => View.canon_apply_of_pieces (permuted x3) _
    (scratch_pieces c i arg1 harg1 arg2 harg2 arg3 harg3 arg4 harg4 arg5 harg5 arg6 harg6 arg7 harg7 arg8 harg8 x0 x1 x2 x3 x4 hc0) y
    (scover0_A_0 c i arg1 harg1 arg2 harg2 arg3 harg3 arg4 harg4 arg5 harg5 arg6 harg6 arg7 harg7 arg8 harg8 hc0 x0 x1 x2 x3 x4 y)

/-- The first output after a later point: the scratch holds `s`. -/
theorem phi_B (hc0 : ¬cond0_0 i) (s : Vec E S64x17408 .f32) :
    out0_B_5 c i arg1 harg1 arg2 harg2 arg3 harg3 arg4 harg4 arg5 harg5 arg6 harg6 arg7 harg7 arg8 harg8 hc0 x0 x1 x2 x3 x4 s = outPhi x0 x1 x2 s x4 := by
  unfold out0_B_5
  rw [View.read_writes_junk_eq_canon]
  funext y
  refine View.canon_apply_of_pieces (outPhi x0 x1 x2 s x4) _ ?_ y
    (cover0_B_5 c i arg1 harg1 arg2 harg2 arg3 harg3 arg4 harg4 arg5 harg5 arg6 harg6 arg7 harg7 arg8 harg8 hc0 x0 x1 x2 x3 x4 s y)
  unfold kernelRun0_B; dsimp only; sl_unfold_words
  simp only [View.readAt_eq_ld, harg1.read_unread, harg2.read_unread, harg3.read_unread, harg5.read_unread, harg8.read_unread,
    View.ld_unit_zero (S := S1024x64) hz, View.ld_unit_zero (S := S1x64) hz, View.ld_unit_zero (S := S64x17408) hz,
    View.ld_unit_zero (S := S1x17408) hz, List.forall_mem_cons]
  refine ⟨fun x => ?_, fun x => ?_, fun _ h => absurd h List.not_mem_nil⟩
  · exact outPhi_right x0 x1 x2 s x4 _ x
  · exact outPhi_left x0 x1 x2 s x4 _ x

/-- The second output after a later point. -/
theorem log_B (hc0 : ¬cond0_0 i) (s : Vec E S64x17408 .f32) :
    out0_B_6 c i arg1 harg1 arg2 harg2 arg3 harg3 arg4 harg4 arg5 harg5 arg6 harg6 arg7 harg7 arg8 harg8 hc0 x0 x1 x2 x3 x4 s = outLog x0 x1 x2 s x4 := by
  unfold out0_B_6
  rw [View.read_writes_junk_eq_canon]
  unfold kernelRun0_B; dsimp only; sl_unfold_words
  simp only [View.readAt_eq_ld, harg1.read_unread, harg2.read_unread, harg3.read_unread, harg5.read_unread, harg8.read_unread,
    View.ld_unit_zero (S := S1024x64) hz, View.ld_unit_zero (S := S1x64) hz, View.ld_unit_zero (S := S64x17408) hz,
    View.ld_unit_zero (S := S1x17408) hz]
  rw [View.canon_unit_zero (S := S256x1) hz]
  rfl

/-- The first output after the first point: the body reads back the scratch it has just written. -/
theorem phi_A (hc0 : cond0_0 i) :
    out0_A_5 c i arg1 harg1 arg2 harg2 arg3 harg3 arg4 harg4 arg5 harg5 arg6 harg6 arg7 harg7 arg8 harg8 hc0 x0 x1 x2 x3 x4
      = outPhi x0 x1 x2 (permuted x3) x4 := by
  have hp := scratch_pieces c i arg1 harg1 arg2 harg2 arg3 harg3 arg4 harg4 arg5 harg5 arg6 harg6 arg7 harg7 arg8 harg8 x0 x1 x2 x3 x4 hc0
  have hs := scover0_A_0 c i arg1 harg1 arg2 harg2 arg3 harg3 arg4 harg4 arg5 harg5 arg6 harg6 arg7 harg7 arg8 harg8 hc0 x0 x1 x2 x3 x4
  unfold out0_A_5
  rw [View.read_writes_junk_eq_canon]
  funext y
  refine View.canon_apply_of_pieces (outPhi x0 x1 x2 (permuted x3) x4) _ ?_ y
    (cover0_A_5 c i arg1 harg1 arg2 harg2 arg3 harg3 arg4 harg4 arg5 harg5 arg6 harg6 arg7 harg7 arg8 harg8 hc0 x0 x1 x2 x3 x4 y)
  unfold kernelRun0_A; dsimp only; sl_unfold_words
  rw [load_scratch _ _ (permuted x3) _ ?hp ?hs]
  case hp => exact hp
  case hs => exact hs
  simp only [View.readAt_eq_ld, harg1.read_unread, harg2.read_unread, harg3.read_unread, harg5.read_unread,
    View.ld_unit_zero (S := S1024x64) hz, View.ld_unit_zero (S := S1x64) hz,
    View.ld_unit_zero (S := S1x17408) hz, List.forall_mem_cons]
  refine ⟨fun x => ?_, fun x => ?_, fun _ h => absurd h List.not_mem_nil⟩
  · exact outPhi_right x0 x1 x2 (permuted x3) x4 _ x
  · exact outPhi_left x0 x1 x2 (permuted x3) x4 _ x

/-- The second output after the first point. -/
theorem log_A (hc0 : cond0_0 i) :
    out0_A_6 c i arg1 harg1 arg2 harg2 arg3 harg3 arg4 harg4 arg5 harg5 arg6 harg6 arg7 harg7 arg8 harg8 hc0 x0 x1 x2 x3 x4
      = outLog x0 x1 x2 (permuted x3) x4 := by
  have hp := scratch_pieces c i arg1 harg1 arg2 harg2 arg3 harg3 arg4 harg4 arg5 harg5 arg6 harg6 arg7 harg7 arg8 harg8 x0 x1 x2 x3 x4 hc0
  have hs := scover0_A_0 c i arg1 harg1 arg2 harg2 arg3 harg3 arg4 harg4 arg5 harg5 arg6 harg6 arg7 harg7 arg8 harg8 hc0 x0 x1 x2 x3 x4
  unfold out0_A_6
  rw [View.read_writes_junk_eq_canon]
  unfold kernelRun0_A; dsimp only; sl_unfold_words
  rw [load_scratch _ _ (permuted x3) _ ?hp ?hs]
  case hp => exact hp
  case hs => exact hs
  simp only [View.readAt_eq_ld, harg1.read_unread, harg2.read_unread, harg3.read_unread, harg5.read_unread,
    View.ld_unit_zero (S := S1024x64) hz, View.ld_unit_zero (S := S1x64) hz,
    View.ld_unit_zero (S := S1x17408) hz]
  rw [View.canon_unit_zero (S := S256x1) hz]
  rfl

end

end Cert.Blocks

end
-- ==== Proof.Spline.lean ====
/- The spline of one element, over the real numbers: `w` are the eight unnormalized segment widths, `h` the nine
   unnormalized knot heights, `e` the amount taken off every knot, `x` the coordinate. The kernel works with the
   unnormalized numbers and scales at the end, the reference normalizes first; on one segment the two agree. -/
module

public import Idealize.ShloMosaic.PureOps.Ideal

@[expose] public section

noncomputable section

namespace Cert.Spline

open Idealize.ShloMosaic

/-- The sum of the first `k` widths. -/
def cum (w : ℕ → ℝ) (k : ℕ) : ℝ := ∑ j ∈ Finset.range k, w j

/-- Twice the area under the first `k` trapezoids. -/
def area (w h : ℕ → ℝ) (k : ℕ) : ℝ := ∑ j ∈ Finset.range k, w j * (h j + h (j + 1))

/-- Knot `k`, in units of the total width. -/
def knot (e : ℝ) (w : ℕ → ℝ) (k : ℕ) : ℝ := cum w k - e * cum w 8

/-- A normalized width. -/
def wn (w : ℕ → ℝ) (k : ℕ) : ℝ := w k / cum w 8

/-- A normalized height. -/
def hn (w h : ℕ → ℝ) (k : ℕ) : ℝ := h k / (area w h 8 / (2 * cum w 8))

/-- Segment `K` holds `x`: its left knot lies strictly to the left (segment 0 reaches to -∞) and the next one does not. -/
def IsSeg (e : ℝ) (w : ℕ → ℝ) (x : EReal) (K : ℕ) : Prop :=
  K < 8 ∧ (K = 0 ∨ (knot e w K : EReal) < x * (cum w 8 : ℝ)) ∧ (K = 7 ∨ ¬ (knot e w (K + 1) : EReal) < x * (cum w 8 : ℝ))

/-- Some segment holds `x`. -/
theorem exists_seg (e : ℝ) (w : ℕ → ℝ) (x : EReal) : ∃ K, IsSeg e w x K := by
  by_cases h7 : (knot e w 7 : EReal) < x * (cum w 8 : ℝ)
  · exact ⟨7, by omega, .inr h7, .inl rfl⟩
  by_cases h6 : (knot e w 6 : EReal) < x * (cum w 8 : ℝ)
  · exact ⟨6, by omega, .inr h6, .inr h7⟩
  by_cases h5 : (knot e w 5 : EReal) < x * (cum w 8 : ℝ)
  · exact ⟨5, by omega, .inr h5, .inr h6⟩
  by_cases h4 : (knot e w 4 : EReal) < x * (cum w 8 : ℝ)
  · exact ⟨4, by omega, .inr h4, .inr h5⟩
  by_cases h3 : (knot e w 3 : EReal) < x * (cum w 8 : ℝ)
  · exact ⟨3, by omega, .inr h3, .inr h4⟩
  by_cases h2 : (knot e w 2 : EReal) < x * (cum w 8 : ℝ)
  · exact ⟨2, by omega, .inr h2, .inr h3⟩
  by_cases h1 : (knot e w 1 : EReal) < x * (cum w 8 : ℝ)
  · exact ⟨1, by omega, .inr h1, .inr h2⟩
  · exact ⟨0, by omega, .inl rfl, .inr h1⟩

section
variable {e : ℝ} {w h : ℕ → ℝ}

theorem cum_succ (w : ℕ → ℝ) (k : ℕ) : cum w (k + 1) = cum w k + w k := Finset.sum_range_succ _ _

theorem area_succ (w h : ℕ → ℝ) (k : ℕ) : area w h (k + 1) = area w h k + w k * (h k + h (k + 1)) :=
  Finset.sum_range_succ _ _

theorem cum_pos (hw : ∀ k, 0 < w k) : 0 < cum w 8 :=
  Finset.sum_pos (fun k _ => hw k) ⟨0, by simp⟩

theorem area_pos (hw : ∀ k, 0 < w k) (hh : ∀ k, 0 < h k) : 0 < area w h 8 :=
  Finset.sum_pos (fun k _ => mul_pos (hw k) (add_pos (hh k) (hh (k + 1)))) ⟨0, by simp⟩

theorem knot_mono (hw : ∀ k, 0 < w k) {a b : ℕ} (hab : a ≤ b) : knot e w a ≤ knot e w b := by
  unfold knot
  have : cum w a ≤ cum w b := Finset.sum_le_sum_of_subset_of_nonneg
    (Finset.range_mono hab) fun i _ _ => (hw i).le
  linarith

/-- Every knot up to the segment's own lies to the left … -/
theorem IsSeg.left (hw : ∀ k, 0 < w k) {x : EReal} {K : ℕ} (s : IsSeg e w x K) {k : ℕ} (h0 : 1 ≤ k) (hk : k ≤ K) :
    (knot e w k : EReal) < x * (cum w 8 : ℝ) := by
  rcases s.2.1 with rfl | hK
  · omega
  · exact lt_of_le_of_lt (EReal.coe_le_coe_iff.2 (knot_mono hw hk)) hK

/-- … and no later one does. -/
theorem IsSeg.right (hw : ∀ k, 0 < w k) {x : EReal} {K : ℕ} (s : IsSeg e w x K) {k : ℕ} (hk : K < k) (hK : K ≠ 7) :
    ¬ (knot e w k : EReal) < x * (cum w 8 : ℝ) := by
  rcases s.2.2 with rfl | hn
  · exact absurd rfl hK
  · exact fun hlt => hn (lt_of_le_of_lt (EReal.coe_le_coe_iff.2 (knot_mono hw hk)) hlt)

/-- Comparing with the normalized knot is comparing the scaled coordinate with the scaled knot. -/
theorem lt_iff (hw : ∀ k, 0 < w k) {x : EReal} (hx : x ≠ ⊥) (k : ℕ) :
    ((cum w k / cum w 8 - e : ℝ) : EReal) < x ↔ (knot e w k : EReal) < x * (cum w 8 : ℝ) := by
  have hS := cum_pos hw
  induction x with
  | bot => exact absurd rfl hx
  | top => rw [EReal.top_mul_coe_of_pos hS]; simp only [EReal.coe_lt_top]
  | coe r =>
    rw [← EReal.coe_mul, EReal.coe_lt_coe_iff, EReal.coe_lt_coe_iff, knot, sub_lt_iff_lt_add, div_lt_iff₀ hS,
      sub_lt_iff_lt_add, add_mul]

/-- A quotient of reals. -/
theorem div_real {a b : ℝ} (hb : b ≠ 0) : Ideal.div (a : EReal) (b : EReal) = ((a / b : ℝ) : EReal) := by
  rw [Ideal.div_coe hb, ← EReal.coe_mul, mul_one_div]

theorem div_top {b : ℝ} (hb : 0 < b) : Ideal.div ⊤ (b : EReal) = ⊤ := by
  rw [Ideal.div_coe hb.ne', EReal.top_mul_coe_of_pos (by positivity)]

/-- Where `x` lies in its segment, as the kernel computes it … -/
def kAlpha (e : ℝ) (w : ℕ → ℝ) (x : EReal) (K : ℕ) : EReal :=
  Ideal.div (x * (cum w 8 : ℝ) - (knot e w K : ℝ)) (w K : ℝ)

/-- … the kernel's spline value … -/
def kPhi (e : ℝ) (w h : ℕ → ℝ) (x : EReal) (K : ℕ) : EReal :=
  ((area w h K : ℝ) + kAlpha e w x K * (w K : ℝ)
    * ((h K : EReal) + (h K : ℝ) + kAlpha e w x K * ((h (K + 1) : ℝ) - (h K : ℝ)))) * Ideal.div 1 (area w h 8 : ℝ)

/-- … and its slope. -/
def kGrad (e : ℝ) (w h : ℕ → ℝ) (x : EReal) (K : ℕ) : EReal :=
  ((h K : EReal) + (h K : ℝ) + (kAlpha e w x K * ((h (K + 1) : ℝ) - (h K : ℝ))
    + kAlpha e w x K * ((h (K + 1) : ℝ) - (h K : ℝ)))) * ((cum w 8 : ℝ) * Ideal.div 1 (area w h 8 : ℝ))

/-- The reference's position in the segment … -/
def rAlpha (e : ℝ) (w : ℕ → ℝ) (x : EReal) (K : ℕ) : EReal :=
  Ideal.div (x - (cum w K / cum w 8 - e : ℝ)) (wn w K : ℝ)

/-- … its spline value … -/
def rPhi (e : ℝ) (w h : ℕ → ℝ) (x : EReal) (K : ℕ) : EReal :=
  ((area w h K / area w h 8 : ℝ) : EReal) + rAlpha e w x K * (hn w h K : ℝ) * (wn w K : ℝ)
    + ((1 / 2 : ℝ) : EReal) * (rAlpha e w x K * rAlpha e w x K) * ((hn w h (K + 1) : ℝ) - (hn w h K : ℝ)) * (wn w K : ℝ)

/-- … and its slope. -/
def rGrad (e : ℝ) (w h : ℕ → ℝ) (x : EReal) (K : ℕ) : EReal :=
  (hn w h K : EReal) + rAlpha e w x K * ((hn w h (K + 1) : ℝ) - (hn w h K : ℝ))

theorem kAlpha_coe (hw : ∀ k, 0 < w k) (x : ℝ) (K : ℕ) :
    kAlpha e w x K = (((x * cum w 8 - knot e w K) / w K : ℝ) : EReal) := by
  rw [kAlpha, ← EReal.coe_mul, ← EReal.coe_sub, div_real (hw K).ne']

theorem rAlpha_coe (hw : ∀ k, 0 < w k) (x : ℝ) (K : ℕ) :
    rAlpha e w x K = (((x * cum w 8 - knot e w K) / w K : ℝ) : EReal) := by
  have hS := cum_pos hw
  have hK := hw K
  rw [rAlpha, ← EReal.coe_sub, div_real (by unfold wn; positivity)]
  congr 1
  unfold wn knot
  field_simp

theorem kAlpha_top (hw : ∀ k, 0 < w k) (K : ℕ) : kAlpha e w ⊤ K = ⊤ := by
  rw [kAlpha, EReal.top_mul_coe_of_pos (cum_pos hw), EReal.top_sub_coe, div_top (hw K)]

theorem rAlpha_top (hw : ∀ k, 0 < w k) (K : ℕ) : rAlpha e w ⊤ K = ⊤ := by
  have hS := cum_pos hw
  have hK := hw K
  rw [rAlpha, EReal.top_sub_coe, div_top (by unfold wn; positivity)]

/-- The difference of two normalized heights is the difference of the heights over a positive number. -/
theorem hn_sub (K : ℕ) : hn w h (K + 1) - hn w h K = (h (K + 1) - h K) / (area w h 8 / (2 * cum w 8)) := by
  unfold hn; ring

/-- The two spline values agree. -/
theorem phi_eq (hw : ∀ k, 0 < w k) (hh : ∀ k, 0 < h k) {x : EReal} (hx : x ≠ ⊥) (K : ℕ) :
    kPhi e w h x K = rPhi e w h x K := by
  have hS := cum_pos hw
  have hA := area_pos hw hh
  have hK := hw K
  have hH := hh K
  have hD : 0 < area w h 8 / (2 * cum w 8) := by positivity
  have hwn : 0 < wn w K := by unfold wn; positivity
  have hhn : 0 < hn w h K := by unfold hn; positivity
  induction x with
  | bot => exact absurd rfl hx
  | coe x =>
    rw [kPhi, rPhi, kAlpha_coe hw, rAlpha_coe hw, show (1 : EReal) = ((1 : ℝ) : EReal) from rfl, div_real hA.ne']
    generalize (x * cum w 8 - knot e w K) / w K = α
    norm_cast
    unfold hn wn
    field_simp
    ring
  | top =>
    rw [kPhi, rPhi, kAlpha_top hw, rAlpha_top hw, show (1 : EReal) = ((1 : ℝ) : EReal) from rfl, div_real hA.ne',
      EReal.top_mul_coe_of_pos hK, EReal.top_mul_coe_of_pos hhn, EReal.top_mul_coe_of_pos hwn, EReal.top_mul_top,
      EReal.coe_mul_top_of_pos (by norm_num : (0 : ℝ) < 1 / 2), ← EReal.coe_sub, ← EReal.coe_sub, hn_sub, ← EReal.coe_add]
    have hA1 : 0 < 1 / area w h 8 := by positivity
    rcases lt_trichotomy (h (K + 1) - h K) 0 with hd | hd | hd
    · rw [EReal.top_mul_coe_of_neg hd, EReal.top_mul_coe_of_neg (div_neg_of_neg_of_pos hd hD), EReal.add_bot,
        EReal.top_mul_bot, EReal.add_bot, EReal.bot_mul_coe_of_pos hA1, EReal.bot_mul_coe_of_pos hwn, EReal.add_bot]
    · simp only [hd, zero_div, EReal.coe_zero, mul_zero, zero_mul, add_zero]
      rw [
        EReal.top_mul_coe_of_pos (by positivity), EReal.coe_add_top, EReal.coe_add_top, EReal.top_mul_coe_of_pos hA1]
    · rw [EReal.top_mul_coe_of_pos hd, EReal.top_mul_coe_of_pos (div_pos hd hD), EReal.coe_add_top, EReal.top_mul_top,
        EReal.coe_add_top, EReal.coe_add_top, EReal.top_mul_coe_of_pos hA1, EReal.top_mul_coe_of_pos hwn,
        EReal.top_add_top]

/-- The two slopes agree. -/
theorem grad_eq (hw : ∀ k, 0 < w k) (hh : ∀ k, 0 < h k) {x : EReal} (hx : x ≠ ⊥) (K : ℕ) :
    kGrad e w h x K = rGrad e w h x K := by
  have hS := cum_pos hw
  have hA := area_pos hw hh
  have hK := hw K
  have hH := hh K
  have hD : 0 < area w h 8 / (2 * cum w 8) := by positivity
  induction x with
  | bot => exact absurd rfl hx
  | coe x =>
    rw [kGrad, rGrad, kAlpha_coe hw, rAlpha_coe hw, show (1 : EReal) = ((1 : ℝ) : EReal) from rfl, div_real hA.ne']
    generalize (x * cum w 8 - knot e w K) / w K = α
    norm_cast
    unfold hn
    field_simp
    ring
  | top =>
    rw [kGrad, rGrad, kAlpha_top hw, rAlpha_top hw, show (1 : EReal) = ((1 : ℝ) : EReal) from rfl, div_real hA.ne',
      ← EReal.coe_sub, ← EReal.coe_sub, hn_sub, ← EReal.coe_add, ← EReal.coe_mul]
    have hA1 : 0 < cum w 8 * (1 / area w h 8) := by positivity
    rcases lt_trichotomy (h (K + 1) - h K) 0 with hd | hd | hd
    · rw [EReal.top_mul_coe_of_neg hd, EReal.top_mul_coe_of_neg (div_neg_of_neg_of_pos hd hD), EReal.add_bot, EReal.add_bot,
        EReal.bot_mul_coe_of_pos hA1, EReal.add_bot]
    · rw [hd, zero_div, EReal.coe_zero, mul_zero, add_zero, add_zero, add_zero, ← EReal.coe_mul]
      congr 1
      unfold hn
      field_simp
      ring
    · rw [EReal.top_mul_coe_of_pos hd, EReal.top_mul_coe_of_pos (div_pos hd hD), EReal.top_add_top, EReal.coe_add_top,
        EReal.coe_add_top, EReal.top_mul_coe_of_pos hA1]

/-- The reference's normalizer: the area under the heights over the normalized widths. -/
theorem denom_eq : ∑ k : Fin 8, 1 / 2 * wn w k * (h k + h (k + 1)) = area w h 8 / (2 * cum w 8) := by
  rw [Fin.sum_univ_eq_sum_range (fun k => 1 / 2 * wn w k * (h k + h (k + 1))) 8, area, Finset.sum_div]
  refine Finset.sum_congr rfl fun k _ => ?_
  unfold wn; ring

/-- The reference's knot values, accumulated from normalized widths and heights. -/
theorem phiKnot_eq (hw : ∀ k, 0 < w k) (hh : ∀ k, 0 < h k) (k : ℕ) :
    ∑ j ∈ Finset.range k, 1 / 2 * wn w j * (hn w h j + hn w h (j + 1)) = area w h k / area w h 8 := by
  have hS := cum_pos hw
  have hA := area_pos hw hh
  rw [area, Finset.sum_div]
  refine Finset.sum_congr rfl fun j _ => ?_
  unfold wn hn
  field_simp

end

end Cert.Spline

end
-- ==== Proof.Words.lean ====
/- The float constants of the two programs as extended reals. -/
module

public import Idealize.ShloMosaic.PureOps.Ideal

@[expose] public section

noncomputable section

namespace Cert.Words

open Idealize.ShloMosaic

/-- What is taken off every knot: the single-precision number nearest to one millionth. -/
def eps : ℝ := 8796093 * (2 : ℝ) ^ (-43 : ℤ)

/-- A normal single-precision word, from its three fields. -/
theorem normal_word (W : BitVec 32) (neg : Bool) (ex fr : ℕ) (hs : (W.extractLsb' (8 + 23) 1 == 1#1) = neg)
    (he : (W.extractLsb' 23 8).toNat = ex) (hf : (W.extractLsb' 0 23).toNat = fr) (h0 : ex ≠ 0) (h1 : ex ≠ 2 ^ 8 - 1) :
    Ideal.ofBits .f32 W = (((if neg then -1 else 1) * (2 ^ 23 + fr : ℕ) * (2 : ℝ) ^ ((ex : ℤ) - (2 ^ (8 - 1) - 1) - (23 : ℕ)) : ℝ) : EReal) := by
  simp only [Ideal.ofBits, Ideal.ieee, hs, he, hf]
  rw [if_neg h1, if_neg h0]

theorem eps_word : Ideal.ofBits .f32 0x358637BD#32 = (eps : EReal) := by
  rw [normal_word _ false 107 407485 (by decide) (by decide) (by decide) (by decide) (by decide), eps]
  norm_num
theorem neg_eps_word : Ideal.ofBits .f32 0xB58637BD#32 = ((-eps : ℝ) : EReal) := by
  rw [normal_word _ true 107 407485 (by decide) (by decide) (by decide) (by decide) (by decide), eps]
  norm_num
theorem half_word : Ideal.ofBits .f32 0x3F000000#32 = ((1 / 2 : ℝ) : EReal) := by
  rw [normal_word _ false 126 0 (by decide) (by decide) (by decide) (by decide) (by decide)]
  norm_num
theorem one_word : Ideal.ofBits .f32 0x3F800000#32 = ((1 : ℝ) : EReal) := by
  rw [normal_word _ false 127 0 (by decide) (by decide) (by decide) (by decide) (by decide)]
  norm_num
theorem zero_word : Ideal.ofBits .f32 0x00000000#32 = 0 := by
  simp only [Ideal.ofBits, Ideal.ieee]
  norm_num
theorem bot_word : Ideal.ofBits .f32 0xFF800000#32 = ⊥ := by
  have he : ((0xFF800000#32).extractLsb' 23 8).toNat = 2 ^ 8 - 1 := by decide
  have hf : ((0xFF800000#32).extractLsb' 0 23).toNat = 0 := by decide
  have hs : ((0xFF800000#32).extractLsb' (8 + 23) 1 == 1#1) = true := by decide
  simp only [Ideal.ofBits, Ideal.ieee, hs, he, hf]
  simp

end Cert.Words

end
-- ==== Proof.Spec.lean ====
/- What both programs compute, in plain mathematics: the conditioning net's outputs (hyperbolic tangents, hence real
   numbers), the spline its seventeen planes parametrize at every coordinate, its value and the logarithm of its slope. -/
module

public import proofs.«01_k».proof.Proof.Spline
public import proofs.«01_k».proof.Proof.Words

@[expose] public section

noncomputable section

namespace Cert.Spec

open Idealize.ShloMosaic Cert.Spline Cert.Words

/-- The unnormalized widths: exponentials of planes 9 to 16. -/
def wOf (p : ℕ → ℝ) (k : ℕ) : ℝ := Real.exp (p (9 + k))

/-- The unnormalized heights: exponentials of planes 0 to 8. -/
def hOf (p : ℕ → ℝ) (k : ℕ) : ℝ := Real.exp (p k)

theorem wOf_pos (p : ℕ → ℝ) (k : ℕ) : 0 < wOf p k := Real.exp_pos _
theorem hOf_pos (p : ℕ → ℝ) (k : ℕ) : 0 < hOf p k := Real.exp_pos _

/-- The problem's data: the input, and the two layers' weights and biases. -/
structure Data where
  X : Fin 2048 → Fin 2048 → EReal
  W1 : Fin 1024 → Fin 64 → EReal
  b1 : Fin 64 → EReal
  W2 : Fin 64 → Fin 17408 → EReal
  b2 : Fin 17408 → EReal

variable (d : Data)

/-- The hidden layer. -/
def hidden (r : Fin 2048) (k : Fin 64) : EReal :=
  Ideal.tanh (∑ j : Fin 1024, (d.X r ⟨j.val, by omega⟩ - Ideal.ofBits .f32 0x3F000000#32) * d.W1 j k + d.b1 k)

/-- The net's outputs. -/
def net (r : Fin 2048) (q : Fin 17408) : EReal := Ideal.tanh (∑ k : Fin 64, hidden d r k * d.W2 k q + d.b2 q)

/-- A hyperbolic tangent is a real number. -/
theorem tanh_real (x : EReal) : ((Ideal.tanh x).toReal : EReal) = Ideal.tanh x := by
  induction x with
  | bot => rw [Ideal.tanh_bot]; exact EReal.coe_toReal (by decide) (by decide)
  | top => rw [Ideal.tanh_top]; exact EReal.coe_toReal (by decide) (by decide)
  | coe r => rw [Ideal.tanh_coe, EReal.toReal_coe]

/-- The seventeen parameters of coordinate `c` of row `r`. -/
def par (r : Fin 2048) (c : Fin 1024) (k : ℕ) : ℝ := (net d r ⟨(c.val * 17 + k) % 17408, Nat.mod_lt _ (by decide)⟩).toReal

theorem par_coe (r : Fin 2048) (c : Fin 1024) (k : ℕ) (q : Fin 17408) (hq : q.val = c.val * 17 + k) :
    net d r q = (par d r c k : EReal) := by
  have h : (⟨(c.val * 17 + k) % 17408, Nat.mod_lt _ (by decide)⟩ : Fin 17408) = q :=
    Fin.ext (by show (c.val * 17 + k) % 17408 = q.val; rw [← hq]; exact Nat.mod_eq_of_lt q.isLt)
  rw [par, h, net, tanh_real]

/-- The coordinate the spline transforms. -/
def xb (r : Fin 2048) (c : Fin 1024) : EReal := d.X r ⟨1024 + c.val, by omega⟩

/-- The segment it falls in. -/
def seg (r : Fin 2048) (c : Fin 1024) : ℕ := Classical.choose (exists_seg eps (wOf (par d r c)) (xb d r c))

theorem seg_spec (r : Fin 2048) (c : Fin 1024) : IsSeg eps (wOf (par d r c)) (xb d r c) (seg d r c) :=
  Classical.choose_spec (exists_seg eps (wOf (par d r c)) (xb d r c))

/-- The spline's value. -/
def phi (r : Fin 2048) (c : Fin 1024) : EReal :=
  rPhi eps (wOf (par d r c)) (hOf (par d r c)) (xb d r c) (seg d r c)

/-- The spline's slope. -/
def grad (r : Fin 2048) (c : Fin 1024) : EReal :=
  rGrad eps (wOf (par d r c)) (hOf (par d r c)) (xb d r c) (seg d r c)

/-- The first result: the input's first half, and the spline's values in place of the second. -/
def out (r : Fin 2048) (q : Fin 2048) : EReal :=
  if h : q.val < 1024 then d.X r q else phi d r ⟨q.val - 1024, by omega⟩

/-- The sum of the slopes' logarithms along a row. -/
def logs (r : Fin 2048) : EReal := ∑ c : Fin 1024, Ideal.log (grad d r c)

end Cert.Spec

end
-- ==== Proof.Element.lean ====
/- One element of the kernel's block: what each step of the body computes there, in terms of the spline. The hypotheses
   `Holds` say what the seventeen planes of the conditioning net hold at that element; `w` and `h` are the exponentials of
   its width and height planes, and the element's coordinate is `x`. -/
module

public import proofs.«01_k».proof.Proof.Gen.KernelIdeal.Skeleton
public import proofs.«01_k».proof.Proof.Spec
public import proofs.«01_k».proof.Proof.Words
public import Idealize.ShloMosaic.Lib.ValueIdx

@[expose] public section

noncomputable section

namespace Cert.Element

open Idealize.ShloMosaic Idealize.ShloMosaic.ValueIdx Cert.KernelIdeal Cert.KernelIdeal.Gen Cert.Spline Cert.Words Cert.Spec

/-- The planes' values at the element `i`. -/
structure Holds (p : ℕ → ℝ) (i : S256x1024.Idx)
    (v21 v22 v23 v24 v25 v26 v27 v28 v29 v33 v34 v35 v36 v37 v38 v39 v40 : FVec Ideal S256x1024 .f32) : Prop where
  h0 : v21 i = (p 0 : EReal)
  h1 : v22 i = (p 1 : EReal)
  h2 : v23 i = (p 2 : EReal)
  h3 : v24 i = (p 3 : EReal)
  h4 : v25 i = (p 4 : EReal)
  h5 : v26 i = (p 5 : EReal)
  h6 : v27 i = (p 6 : EReal)
  h7 : v28 i = (p 7 : EReal)
  h8 : v29 i = (p 8 : EReal)
  w0 : v38 i = (wOf p 0 : EReal)
  w1 : v39 i = (wOf p 1 : EReal)
  w2 : v40 i = (wOf p 2 : EReal)
  w3 : v33 i = (p 12 : EReal)
  w4 : v34 i = (p 13 : EReal)
  w5 : v35 i = (p 14 : EReal)
  w6 : v36 i = (p 15 : EReal)
  w7 : v37 i = (p 16 : EReal)

section
variable {p : ℕ → ℝ} {i : S256x1024.Idx}
  {v4 v21 v22 v23 v24 v25 v26 v27 v28 v29 v33 v34 v35 v36 v37 v38 v39 v40 : FVec Ideal S256x1024 .f32}

/-- An exponential at an element. -/
theorem exp_at {s : Shape} (v : FVec Ideal s .f32) (j : s.Idx) {r : ℝ} (hv : v j = (r : EReal)) :
    exp v j = (Real.exp r : EReal) := by
  show Ideal.exp (v j) = _
  rw [hv, Ideal.exp_coe]

/-- The kernel's "greater than", as a bit. -/
theorem gt_at {s : Shape} (a b : FVec Ideal s .f32) (j : s.Idx) : cmpf .ogt a b j = BitVec.ofBool (decide (b j < a j)) := rfl

/-- A choice by a bit that is set, and by one that is not. -/
theorem select_at {s : Shape} (a b : FVec Ideal s .f32) (k : IVec s 1) (j : s.Idx) :
    select k a b j = if k j = 1#1 then a j else b j := rfl

variable (H : Holds p i v21 v22 v23 v24 v25 v26 v27 v28 v29 v33 v34 v35 v36 v37 v38 v39 v40)
include H

theorem ew3 : k0_pay40 v33 i = (wOf p 3 : EReal) := exp_at _ _ H.w3
theorem ew4 : k0_pay41 v34 i = (wOf p 4 : EReal) := exp_at _ _ H.w4
theorem ew5 : k0_pay42 v35 i = (wOf p 5 : EReal) := exp_at _ _ H.w5
theorem ew6 : k0_pay43 v36 i = (wOf p 6 : EReal) := exp_at _ _ H.w6
theorem ew7 : k0_pay44 v37 i = (wOf p 7 : EReal) := exp_at _ _ H.w7
theorem eh0 : k0_pay46 v21 i = (hOf p 0 : EReal) := exp_at _ _ H.h0
theorem eh1 : k0_pay47 v22 i = (hOf p 1 : EReal) := exp_at _ _ H.h1
theorem eh2 : k0_pay48 v23 i = (hOf p 2 : EReal) := exp_at _ _ H.h2
theorem eh3 : k0_pay49 v24 i = (hOf p 3 : EReal) := exp_at _ _ H.h3
theorem eh4 : k0_pay50 v25 i = (hOf p 4 : EReal) := exp_at _ _ H.h4
theorem eh5 : k0_pay51 v26 i = (hOf p 5 : EReal) := exp_at _ _ H.h5
theorem eh6 : k0_pay52 v27 i = (hOf p 6 : EReal) := exp_at _ _ H.h6
theorem eh7 : k0_pay53 v28 i = (hOf p 7 : EReal) := exp_at _ _ H.h7
theorem eh8 : k0_pay54 v29 i = (hOf p 8 : EReal) := exp_at _ _ H.h8

/-- The total width. -/
theorem total : k0_pay45 v33 v34 v35 v36 v37 v38 v39 v40 i = (cum (wOf p) 8 : EReal) := by
  simp only [k0_pay45, addf_apply, ew3 H, ew4 H, ew5 H, ew6 H, ew7 H, H.w0, H.w1, H.w2, ← EReal.coe_add]
  simp only [cum, Finset.sum_range_succ, Finset.sum_range_zero, zero_add]

/-- The scaled coordinate. -/
theorem scaled : k0_pay55 v4 v33 v34 v35 v36 v37 v38 v39 v40 i = v4 i * (cum (wOf p) 8 : ℝ) := by
  simp only [k0_pay55, mulf_apply, total H]

/-- Knot 0, … -/
theorem knot0 : k0_pay56 v33 v34 v35 v36 v37 v38 v39 v40 i = (knot eps (wOf p) 0 : EReal) := by
  simp only [k0_pay56, mulf_apply, total H]
  show Ideal.ofBits .f32 0xB58637BD#32 * _ = _
  rw [neg_eps_word, ← EReal.coe_mul, knot, show cum (wOf p) 0 = 0 from Finset.sum_range_zero _]
  congr 1; ring
theorem knot_add (k : ℕ) : (knot eps (wOf p) k : EReal) + (wOf p k : ℝ) = (knot eps (wOf p) (k + 1) : EReal) := by
  rw [← EReal.coe_add, knot, knot, cum_succ _ k]
  congr 1; ring
theorem area_add (k : ℕ) : (area (wOf p) (hOf p) k : EReal) + (wOf p k : ℝ) * ((hOf p k : ℝ) + (hOf p (k + 1) : ℝ))
    = (area (wOf p) (hOf p) (k + 1) : EReal) := by
  rw [← EReal.coe_add, ← EReal.coe_mul, ← EReal.coe_add, area_succ]
theorem knot1 : k0_pay58 v33 v34 v35 v36 v37 v38 v39 v40 i = (knot eps (wOf p) 1 : EReal) := by
  simp only [k0_pay58, addf_apply, knot0 H, H.w0, knot_add H]
theorem knot2 : k0_pay61 v33 v34 v35 v36 v37 v38 v39 v40 i = (knot eps (wOf p) 2 : EReal) := by
  simp only [k0_pay61, addf_apply, knot1 H, H.w1, knot_add H]
theorem knot3 : k0_pay64 v33 v34 v35 v36 v37 v38 v39 v40 i = (knot eps (wOf p) 3 : EReal) := by
  simp only [k0_pay64, addf_apply, knot2 H, H.w2, knot_add H]
theorem knot4 : k0_pay72 v33 v34 v35 v36 v37 v38 v39 v40 i = (knot eps (wOf p) 4 : EReal) := by
  simp only [k0_pay72, addf_apply, knot3 H, ew3 H, knot_add H]
theorem knot5 : k0_pay76 (k0_pay41 v34) (k0_pay72 v33 v34 v35 v36 v37 v38 v39 v40) i = (knot eps (wOf p) 5 : EReal) := by
  simp only [k0_pay76, addf_apply, knot4 H, ew4 H, knot_add H]
theorem knot6 : k0_pay79 (k0_pay41 v34) (k0_pay42 v35) (k0_pay72 v33 v34 v35 v36 v37 v38 v39 v40) i
    = (knot eps (wOf p) 6 : EReal) := by
  simp only [k0_pay79, addf_apply, knot5 H, ew5 H, knot_add H]
theorem knot7 : k0_pay82 (k0_pay41 v34) (k0_pay42 v35) (k0_pay43 v36) (k0_pay72 v33 v34 v35 v36 v37 v38 v39 v40) i
    = (knot eps (wOf p) 7 : EReal) := by
  simp only [k0_pay82, addf_apply, knot6 H, ew6 H, knot_add H]

/-- The trapezoids summed: none, … -/
theorem area0 : k0_pay57 (F := Ideal) i = (area (wOf p) (hOf p) 0 : EReal) := by
  show Ideal.ofBits .f32 0x00000000#32 = _
  rw [zero_word, area, Finset.sum_range_zero, EReal.coe_zero]
theorem area1 : k0_pay59 v21 v22 v38 i = (area (wOf p) (hOf p) 1 : EReal) := by
  simp only [k0_pay59, addf_apply, mulf_apply, area0 H, eh0 H, eh1 H, H.w0, ← area_add H]
theorem area2 : k0_pay62 v21 v22 v23 v38 v39 i = (area (wOf p) (hOf p) 2 : EReal) := by
  simp only [k0_pay62, addf_apply, mulf_apply, area1 H, eh1 H, eh2 H, H.w1]; exact area_add H 1
theorem area3 : k0_pay65 v21 v22 v23 v24 v38 v39 v40 i = (area (wOf p) (hOf p) 3 : EReal) := by
  simp only [k0_pay65, addf_apply, mulf_apply, area2 H, eh2 H, eh3 H, H.w2]; exact area_add H 2
theorem area4 : k0_pay74 (k0_pay65 v21 v22 v23 v24 v38 v39 v40) (k0_pay73 v24 v25 v33) i
    = (area (wOf p) (hOf p) 4 : EReal) := by
  simp only [k0_pay74, k0_pay73, addf_apply, mulf_apply, area3 H, eh3 H, eh4 H, ew3 H]; exact area_add H 3
theorem area5 : k0_pay77 (k0_pay41 v34) (k0_pay50 v25) (k0_pay51 v26) (k0_pay65 v21 v22 v23 v24 v38 v39 v40)
    (k0_pay73 v24 v25 v33) i = (area (wOf p) (hOf p) 5 : EReal) := by
  simp only [k0_pay77, addf_apply, mulf_apply, area4 H, eh4 H, eh5 H, ew4 H]; exact area_add H 4
theorem area6 : k0_pay80 (k0_pay41 v34) (k0_pay42 v35) (k0_pay50 v25) (k0_pay51 v26) (k0_pay52 v27)
    (k0_pay65 v21 v22 v23 v24 v38 v39 v40) (k0_pay73 v24 v25 v33) i = (area (wOf p) (hOf p) 6 : EReal) := by
  simp only [k0_pay80, addf_apply, mulf_apply, area5 H, eh5 H, eh6 H, ew5 H]; exact area_add H 5
theorem area7 : k0_pay83 (k0_pay41 v34) (k0_pay42 v35) (k0_pay43 v36) (k0_pay50 v25) (k0_pay51 v26) (k0_pay52 v27)
    (k0_pay53 v28) (k0_pay65 v21 v22 v23 v24 v38 v39 v40) (k0_pay73 v24 v25 v33) i
    = (area (wOf p) (hOf p) 7 : EReal) := by
  simp only [k0_pay83, addf_apply, mulf_apply, area6 H, eh6 H, eh7 H, ew6 H]; exact area_add H 6
/-- … and all of them, whose reciprocal scales the results. -/
theorem inverse : k0_pay87 (k0_pay41 v34) (k0_pay42 v35) (k0_pay43 v36) (k0_pay44 v37) (k0_pay50 v25) (k0_pay51 v26)
    (k0_pay52 v27) (k0_pay53 v28) (k0_pay54 v29) (k0_pay65 v21 v22 v23 v24 v38 v39 v40) (k0_pay73 v24 v25 v33) i
    = Ideal.div 1 (area (wOf p) (hOf p) 8 : ℝ) := by
  simp only [k0_pay87, addf_apply, mulf_apply, divf_apply, area7 H, eh7 H, eh8 H, ew7 H]
  rw [area_add H 7]
  show Ideal.div (Ideal.ofBits .f32 0x3F800000#32) _ = _
  rw [one_word, EReal.coe_one]

variable {K : ℕ} (s : IsSeg eps (wOf p) (v4 i) K)
include s

/-- The bit of a comparison with knot `k`: set exactly up to the segment that holds the coordinate. -/
theorem bit {k : ℕ} (h1 : 1 ≤ k) (h7 : k ≤ 7) :
    BitVec.ofBool (decide ((knot eps (wOf p) k : EReal) < v4 i * (cum (wOf p) 8 : ℝ))) = if k ≤ K then 1#1 else 0#1 := by
  by_cases hk : k ≤ K
  · rw [if_pos hk, decide_eq_true (s.left (wOf_pos p) h1 hk)]; rfl
  · rw [if_neg hk, decide_eq_false (s.right (wOf_pos p) (by omega) (by omega))]; rfl

theorem mask1 : k0_pay60 v4 v33 v34 v35 v36 v37 v38 v39 v40 i = if 1 ≤ K then 1#1 else 0#1 := by
  simp only [k0_pay60, gt_at, knot1 H, scaled H, bit H s (k := 1) (by omega) (by omega)]
theorem mask2 : k0_pay63 v4 v33 v34 v35 v36 v37 v38 v39 v40 i = if 2 ≤ K then 1#1 else 0#1 := by
  simp only [k0_pay63, gt_at, knot2 H, scaled H, bit H s (k := 2) (by omega) (by omega)]
theorem mask3 : k0_pay66 v4 v33 v34 v35 v36 v37 v38 v39 v40 i = if 3 ≤ K then 1#1 else 0#1 := by
  simp only [k0_pay66, gt_at, knot3 H, scaled H, bit H s (k := 3) (by omega) (by omega)]
theorem mask4 : k0_pay75 (k0_pay55 v4 v33 v34 v35 v36 v37 v38 v39 v40) (k0_pay72 v33 v34 v35 v36 v37 v38 v39 v40) i
    = if 4 ≤ K then 1#1 else 0#1 := by
  simp only [k0_pay75, gt_at, knot4 H, scaled H, bit H s (k := 4) (by omega) (by omega)]
theorem mask5 : k0_pay78 (k0_pay41 v34) (k0_pay55 v4 v33 v34 v35 v36 v37 v38 v39 v40)
    (k0_pay72 v33 v34 v35 v36 v37 v38 v39 v40) i = if 5 ≤ K then 1#1 else 0#1 := by
  simp only [k0_pay78, gt_at, knot5 H, scaled H, bit H s (k := 5) (by omega) (by omega)]
theorem mask6 : k0_pay81 (k0_pay41 v34) (k0_pay42 v35) (k0_pay55 v4 v33 v34 v35 v36 v37 v38 v39 v40)
    (k0_pay72 v33 v34 v35 v36 v37 v38 v39 v40) i = if 6 ≤ K then 1#1 else 0#1 := by
  simp only [k0_pay81, gt_at, knot6 H, scaled H, bit H s (k := 6) (by omega) (by omega)]
theorem mask7 : k0_pay84 (k0_pay41 v34) (k0_pay42 v35) (k0_pay43 v36) (k0_pay55 v4 v33 v34 v35 v36 v37 v38 v39 v40)
    (k0_pay72 v33 v34 v35 v36 v37 v38 v39 v40) i = if 7 ≤ K then 1#1 else 0#1 := by
  simp only [k0_pay84, gt_at, knot7 H, scaled H, bit H s (k := 7) (by omega) (by omega)]

/-- Eight candidates chosen by the seven bits: the segment's own is left. -/
theorem chosen (f : ℕ → EReal) :
    (if (if 7 ≤ K then 1#1 else 0#1) = 1#1 then f 7 else if (if 6 ≤ K then 1#1 else 0#1) = 1#1 then f 6
      else if (if 5 ≤ K then 1#1 else 0#1) = 1#1 then f 5 else if (if 4 ≤ K then 1#1 else 0#1) = 1#1 then f 4
      else if (if 3 ≤ K then 1#1 else 0#1) = 1#1 then f 3 else if (if 2 ≤ K then 1#1 else 0#1) = 1#1 then f 2
      else if (if 1 ≤ K then 1#1 else 0#1) = 1#1 then f 1 else f 0) = f K := by
  have hK := s.1
  interval_cases K <;> simp

/-- The width chosen, … -/
theorem width : k0_pay85 (k0_pay41 v34) (k0_pay42 v35) (k0_pay43 v36) (k0_pay44 v37)
    (k0_pay55 v4 v33 v34 v35 v36 v37 v38 v39 v40) (k0_pay67 v4 v33 v34 v35 v36 v37 v38 v39 v40)
    (k0_pay72 v33 v34 v35 v36 v37 v38 v39 v40) i = (wOf p K : EReal) := by
  simp only [k0_pay85, k0_pay67, select_at, mask1 H s, mask2 H s, mask3 H s, mask4 H s, mask5 H s, mask6 H s, mask7 H s,
    ew3 H, ew4 H, ew5 H, ew6 H, ew7 H, H.w0, H.w1, H.w2]
  exact chosen H s fun k => (wOf p k : EReal)

/-- … the left height, … -/
theorem height : k0_pay86 (k0_pay41 v34) (k0_pay42 v35) (k0_pay43 v36) (k0_pay50 v25) (k0_pay51 v26) (k0_pay52 v27)
    (k0_pay53 v28) (k0_pay55 v4 v33 v34 v35 v36 v37 v38 v39 v40)
    (k0_pay68 v4 v21 v22 v23 v24 v33 v34 v35 v36 v37 v38 v39 v40)
    (k0_pay72 v33 v34 v35 v36 v37 v38 v39 v40) i = (hOf p K : EReal) := by
  simp only [k0_pay86, k0_pay68, select_at, mask1 H s, mask2 H s, mask3 H s, mask4 H s, mask5 H s, mask6 H s, mask7 H s,
    eh0 H, eh1 H, eh2 H, eh3 H, eh4 H, eh5 H, eh6 H, eh7 H]
  exact chosen H s fun k => (hOf p k : EReal)

/-- … the position in the segment, … -/
theorem position : k0_pay88 (k0_pay41 v34) (k0_pay42 v35) (k0_pay43 v36) (k0_pay44 v37)
    (k0_pay55 v4 v33 v34 v35 v36 v37 v38 v39 v40) (k0_pay67 v4 v33 v34 v35 v36 v37 v38 v39 v40)
    (k0_pay70 v4 v33 v34 v35 v36 v37 v38 v39 v40)
    (k0_pay72 v33 v34 v35 v36 v37 v38 v39 v40) i = kAlpha eps (wOf p) (v4 i) K := by
  simp only [k0_pay88, k0_pay70, divf_apply, subf_apply, select_at, width H s, scaled H, mask1 H s, mask2 H s, mask3 H s,
    mask4 H s, mask5 H s, mask6 H s, mask7 H s, knot0 H, knot1 H, knot2 H, knot3 H, knot4 H, knot5 H, knot6 H, knot7 H]
  rw [chosen H s fun k => (knot eps (wOf p) k : EReal), kAlpha]

/-- … and the position times the rise of the height. -/
theorem rise : k0_pay89 (k0_pay41 v34) (k0_pay42 v35) (k0_pay43 v36) (k0_pay44 v37) (k0_pay50 v25) (k0_pay51 v26)
    (k0_pay52 v27) (k0_pay53 v28) (k0_pay54 v29)
    (k0_pay55 v4 v33 v34 v35 v36 v37 v38 v39 v40) (k0_pay67 v4 v33 v34 v35 v36 v37 v38 v39 v40)
    (k0_pay68 v4 v21 v22 v23 v24 v33 v34 v35 v36 v37 v38 v39 v40)
    (k0_pay69 v4 v22 v23 v24 v25 v33 v34 v35 v36 v37 v38 v39 v40)
    (k0_pay70 v4 v33 v34 v35 v36 v37 v38 v39 v40)
    (k0_pay72 v33 v34 v35 v36 v37 v38 v39 v40) i
    = kAlpha eps (wOf p) (v4 i) K * ((hOf p (K + 1) : ℝ) - (hOf p K : ℝ)) := by
  simp only [k0_pay89, k0_pay69, mulf_apply, subf_apply, select_at, position H s, height H s, mask1 H s, mask2 H s,
    mask3 H s, mask4 H s, mask5 H s, mask6 H s, mask7 H s, eh1 H, eh2 H, eh3 H, eh4 H, eh5 H, eh6 H, eh7 H, eh8 H]
  rw [chosen H s fun k => (hOf p (k + 1) : EReal)]

/-- The element's spline value. -/
theorem value : k0_pay91 (k0_pay41 v34) (k0_pay42 v35) (k0_pay43 v36) (k0_pay44 v37) (k0_pay50 v25) (k0_pay51 v26)
    (k0_pay52 v27) (k0_pay53 v28) (k0_pay54 v29)
    (k0_pay55 v4 v33 v34 v35 v36 v37 v38 v39 v40) (k0_pay65 v21 v22 v23 v24 v38 v39 v40)
    (k0_pay67 v4 v33 v34 v35 v36 v37 v38 v39 v40)
    (k0_pay68 v4 v21 v22 v23 v24 v33 v34 v35 v36 v37 v38 v39 v40)
    (k0_pay69 v4 v22 v23 v24 v25 v33 v34 v35 v36 v37 v38 v39 v40)
    (k0_pay70 v4 v33 v34 v35 v36 v37 v38 v39 v40)
    (k0_pay71 v4 v21 v22 v23 v24 v33 v34 v35 v36 v37 v38 v39 v40)
    (k0_pay72 v33 v34 v35 v36 v37 v38 v39 v40) (k0_pay73 v24 v25 v33) i
    = kPhi eps (wOf p) (hOf p) (v4 i) K := by
  simp only [k0_pay91, k0_pay90, k0_pay71, mulf_apply, addf_apply, select_at, inverse H, position H s, width H s,
    height H s, rise H s, mask1 H s, mask2 H s, mask3 H s, mask4 H s, mask5 H s, mask6 H s, mask7 H s,
    area0 H, area1 H, area2 H, area3 H, area4 H, area5 H, area6 H, area7 H]
  rw [chosen H s fun k => (area (wOf p) (hOf p) k : EReal), kPhi]

/-- The element's slope. -/
theorem slope : k0_pay92 (k0_pay41 v34) (k0_pay42 v35) (k0_pay43 v36) (k0_pay44 v37)
    (k0_pay45 v33 v34 v35 v36 v37 v38 v39 v40) (k0_pay50 v25) (k0_pay51 v26)
    (k0_pay52 v27) (k0_pay53 v28) (k0_pay54 v29)
    (k0_pay55 v4 v33 v34 v35 v36 v37 v38 v39 v40) (k0_pay65 v21 v22 v23 v24 v38 v39 v40)
    (k0_pay67 v4 v33 v34 v35 v36 v37 v38 v39 v40)
    (k0_pay68 v4 v21 v22 v23 v24 v33 v34 v35 v36 v37 v38 v39 v40)
    (k0_pay69 v4 v22 v23 v24 v25 v33 v34 v35 v36 v37 v38 v39 v40)
    (k0_pay70 v4 v33 v34 v35 v36 v37 v38 v39 v40)
    (k0_pay72 v33 v34 v35 v36 v37 v38 v39 v40) (k0_pay73 v24 v25 v33) i
    = kGrad eps (wOf p) (hOf p) (v4 i) K := by
  simp only [k0_pay92, k0_pay90, mulf_apply, addf_apply, inverse H, total H, height H s, rise H s, kGrad]

end

end Cert.Element

end
-- ==== Proof.Net.lean ====
/- The kernel's block in terms of the problem's data: if a block's operands hold rows of the input, the weights and the
   biases in the kernel's layouts, then what it leaves are the spline's values and the sum of its slopes' logarithms. -/
module

public import proofs.«01_k».proof.Proof.Blocks
public import proofs.«01_k».proof.Proof.Element

@[expose] public section

set_option maxRecDepth 16384

noncomputable section

namespace Cert.Net

open Idealize.ShloMosaic Idealize.ShloMosaic.Pointwise
open Cert.KernelIdeal Cert.KernelIdeal.Gen Cert.Blocks Cert.Spec Cert.Spline Cert.Words

/-- The net's output at an element of the block. -/
theorem net_at (v3 : Vec E S256x1024 .f32) (v7 : Vec E S1024x64 .f32) (v9 : Vec E S1x64 .f32) (v14 : Vec E S64x17408 .f32)
    (v16 : Vec E S1x17408 .f32) (r : Fin 256) (q : Fin 17408) :
    k0_pay22 v3 v7 v9 v14 v16 (ix2 r q) = Ideal.tanh (∑ k : Fin 64, Ideal.tanh (∑ j : Fin 1024,
      (v3 (ix2 r j) - Ideal.ofBits .f32 0x3F000000#32) * v7 (ix2 j k) + v9 (ix2 0 k)) * v14 (ix2 k q) + v16 (ix2 0 q)) := by
  pointwise [k0_pay22]

/-- What a block's operands hold: the rows of the input named by `row`, and the layers in the kernel's layouts. -/
structure Operands (d : Data) (row : Fin 256 → Fin 2048) (x0 : Vec E S256x2048 .f32) (x1 : Vec E S1024x64 .f32)
    (x2 : Vec E S1x64 .f32) (x3 : Vec E S17408x64 .f32) (x4 : Vec E S1x17408 .f32) : Prop where
  input : ∀ r q, x0 (ix2 r q) = d.X (row r) q
  w1 : ∀ j k, x1 (ix2 j k) = d.W1 j k
  b1 : ∀ k, x2 (ix2 0 k) = d.b1 k
  w2 : ∀ q k, x3 (ix2 q k) = d.W2 k q
  b2 : ∀ (q q' : Fin 17408), q'.val = q.val % 1024 * 17 + q.val / 1024 → x4 (ix2 0 q) = d.b2 q'

section
variable {d : Data} {row : Fin 256 → Fin 2048} {x0 : Vec E S256x2048 .f32} {x1 : Vec E S1024x64 .f32}
  {x2 : Vec E S1x64 .f32} {x3 : Vec E S17408x64 .f32} {x4 : Vec E S1x17408 .f32} (H : Operands d row x0 x1 x2 x3 x4)
include H

/-- Plane `j` of the net's outputs holds parameter `j` of every coordinate. -/
theorem plane_at (r : Fin 256) (c : Fin 1024) (j : ℕ) (q : Fin 17408) (hq : q.val = j * 1024 + c.val) :
    k0_pay22 (half0 x0) x1 x2 (permuted x3) x4 (ix2 r q) = (par d (row r) c j : EReal) := by
  have hc := c.isLt
  have hlt := q.isLt
  have hm : q.val % 1024 = c.val := by omega
  have hd : q.val / 1024 = j := by omega
  rw [← par_coe d (row r) c j ⟨c.val * 17 + j, by omega⟩ rfl, net_at, net]
  refine congrArg Ideal.tanh (congrArg₂ (· + ·) (Finset.sum_congr rfl fun k _ => congrArg₂ (· * ·) ?_ ?_) ?_)
  · refine congrArg Ideal.tanh (congrArg₂ (· + ·) (Finset.sum_congr rfl fun l _ => ?_) (H.b1 k))
    rw [H.w1, ← H.input]
    refine congrArg (fun z => (x0 z - _) * _) (Shape.idx_ext₂ ?_ ?_)
    · show 0 + 1 * r.val = r.val; omega
    · show 0 + 1 * l.val = l.val; omega
  · show x3 (ix2 _ k) = _
    rw [H.w2]
    refine congrArg (d.W2 k) (Fin.ext ?_)
    show q.val % 1024 * 17 + q.val / 1024 = c.val * 17 + j
    rw [hm, hd]
  · exact H.b2 _ _ (by show c.val * 17 + j = _; rw [hm, hd])

/-- The coordinate the spline transforms. -/
theorem coord_at (r : Fin 256) (c : Fin 1024) : half1 x0 (ix2 r c) = xb d (row r) c := by
  rw [xb, ← H.input]
  refine congrArg x0 (Shape.idx_ext₂ ?_ ?_)
  · show 0 + 1 * r.val = r.val; omega
  · show 1024 + 1 * c.val = 1024 + c.val; omega

/-- A slice of the net's outputs at an element. -/
theorem slice_at (r : Fin 256) (c : Fin 1024) (j off : ℕ) (hj : off = j * 1024) (h17 : j < 17) (h : S256x17408.Slices ![0, off] S256x1024) :
    extractStridedSlice S256x1024 ![0, off] (k0_pay22 (half0 x0) x1 x2 (permuted x3) x4) h (ix2 r c) = (par d (row r) c j : EReal) := by
  subst hj
  have hc := c.isLt
  have hb : j * 1024 + c.val < 17408 := by omega
  rw [← plane_at H r c j ⟨j * 1024 + c.val, hb⟩ rfl]
  generalize k0_pay22 (half0 x0) x1 x2 (permuted x3) x4 = v
  refine congrArg v (Shape.idx_ext₂ ?_ ?_)
  · show 0 + r.val = r.val; omega
  · show j * 1024 + c.val = j * 1024 + c.val; rfl

/-- The planes at an element of the block. -/
theorem holds (r : Fin 256) (c : Fin 1024) : Element.Holds (par d (row r) c) (ix2 r c)
    (k0_pay23 (half0 x0) x1 x2 (permuted x3) x4) (k0_pay24 (half0 x0) x1 x2 (permuted x3) x4) (k0_pay25 (half0 x0) x1 x2 (permuted x3) x4) (k0_pay26 (half0 x0) x1 x2 (permuted x3) x4) (k0_pay27 (half0 x0) x1 x2 (permuted x3) x4) (k0_pay28 (half0 x0) x1 x2 (permuted x3) x4) (k0_pay29 (half0 x0) x1 x2 (permuted x3) x4) (k0_pay30 (half0 x0) x1 x2 (permuted x3) x4) (k0_pay31 (half0 x0) x1 x2 (permuted x3) x4)
    (k0_pay32 (half0 x0) x1 x2 (permuted x3) x4) (k0_pay33 (half0 x0) x1 x2 (permuted x3) x4) (k0_pay34 (half0 x0) x1 x2 (permuted x3) x4) (k0_pay35 (half0 x0) x1 x2 (permuted x3) x4) (k0_pay36 (half0 x0) x1 x2 (permuted x3) x4) (k0_pay37 (half0 x0) x1 x2 (permuted x3) x4) (k0_pay38 (half0 x0) x1 x2 (permuted x3) x4) (k0_pay39 (half0 x0) x1 x2 (permuted x3) x4) where
  h0 := slice_at H r c 0 0 rfl (by omega) slices_S256x17408_o0_0_S256x1024
  h1 := slice_at H r c 1 1024 rfl (by omega) slices_S256x17408_o0_1024_S256x1024
  h2 := slice_at H r c 2 2048 rfl (by omega) slices_S256x17408_o0_2048_S256x1024
  h3 := slice_at H r c 3 3072 rfl (by omega) slices_S256x17408_o0_3072_S256x1024
  h4 := slice_at H r c 4 4096 rfl (by omega) slices_S256x17408_o0_4096_S256x1024
  h5 := slice_at H r c 5 5120 rfl (by omega) slices_S256x17408_o0_5120_S256x1024
  h6 := slice_at H r c 6 6144 rfl (by omega) slices_S256x17408_o0_6144_S256x1024
  h7 := slice_at H r c 7 7168 rfl (by omega) slices_S256x17408_o0_7168_S256x1024
  h8 := slice_at H r c 8 8192 rfl (by omega) slices_S256x17408_o0_8192_S256x1024
  w0 := Element.exp_at _ _ (slice_at H r c 9 9216 rfl (by omega) slices_S256x17408_o0_9216_S256x1024)
  w1 := Element.exp_at _ _ (slice_at H r c 10 10240 rfl (by omega) slices_S256x17408_o0_10240_S256x1024)
  w2 := Element.exp_at _ _ (slice_at H r c 11 11264 rfl (by omega) slices_S256x17408_o0_11264_S256x1024)
  w3 := slice_at H r c 12 12288 rfl (by omega) slices_S256x17408_o0_12288_S256x1024
  w4 := slice_at H r c 13 13312 rfl (by omega) slices_S256x17408_o0_13312_S256x1024
  w5 := slice_at H r c 14 14336 rfl (by omega) slices_S256x17408_o0_14336_S256x1024
  w6 := slice_at H r c 15 15360 rfl (by omega) slices_S256x17408_o0_15360_S256x1024
  w7 := slice_at H r c 16 16384 rfl (by omega) slices_S256x17408_o0_16384_S256x1024

variable (hx : ∀ r c, xb d r c ≠ ⊥)
include hx

/-- The block's spline values. -/
theorem values_at (r : Fin 256) (c : Fin 1024) : blockValues x0 x1 x2 (permuted x3) x4 (ix2 r c) = phi d (row r) c := by
  have s := seg_spec d (row r) c
  rw [← coord_at H r c] at s
  refine (Element.value (holds H r c) s).trans ?_
  rw [coord_at H r c]
  exact phi_eq (wOf_pos _) (hOf_pos _) (hx _ _) _

/-- The block's slopes. -/
theorem slopes_at (r : Fin 256) (c : Fin 1024) : blockSlopes x0 x1 x2 (permuted x3) x4 (ix2 r c) = grad d (row r) c := by
  have s := seg_spec d (row r) c
  rw [← coord_at H r c] at s
  refine (Element.slope (holds H r c) s).trans ?_
  rw [coord_at H r c]
  exact grad_eq (wOf_pos _) (hOf_pos _) (hx _ _) _

/-- The first output's block. -/
theorem outPhi_at (r : Fin 256) (q : Fin 2048) : outPhi x0 x1 x2 (permuted x3) x4 (ix2 r q) = out d (row r) q := by
  unfold outPhi out
  by_cases h : q.val < 1024
  · rw [dif_pos h]
    exact (dif_pos (c := ((ix2 r q : S256x2048.Idx) 1).val < 1024) h).trans (H.input r q)
  · rw [dif_neg h]
    exact (dif_neg (c := ((ix2 r q : S256x2048.Idx) 1).val < 1024) h).trans (values_at H hx r _)

/-- The second output's block. -/
theorem outLog_at (r : Fin 256) (z : Fin 1) : outLog x0 x1 x2 (permuted x3) x4 (ix2 r z) = 0 - logs d (row r) := by
  have h : outLog x0 x1 x2 (permuted x3) x4 (ix2 r z)
      = Ideal.ofBits .f32 0x00000000#32 - ∑ c : Fin 1024, Ideal.log (blockSlopes x0 x1 x2 (permuted x3) x4 (ix2 r c)) := by
    unfold outLog
    generalize blockSlopes x0 x1 x2 (permuted x3) x4 = v
    pointwise [k0_pay1]
  rw [h, zero_word, logs]
  exact congrArg _ (Finset.sum_congr rfl fun c _ => by rw [slopes_at H hx])

end

end Cert.Net

end
-- ==== Proof.Arrays.lean ====
/- The kernel's arrays: what its windows' blocks hold of the launch's arguments, what the two output arrays end holding,
   and the run with both results named. -/
module

public import proofs.«01_k».proof.Proof.Net
public import Idealize.ShloMosaic.Lib.StableHlo.ReadAt
public import Idealize.ShloMosaic.Lib.Quiescent

@[expose] public section

set_option maxRecDepth 16384

noncomputable section

namespace Cert.Arrays

open Idealize.ShloMosaic Idealize.ShloMosaic.TcCoe Idealize.ShloMosaic.Pointwise Idealize.SL.Sem
open Idealize.ShloMosaic.Pipeline (Dat)
open Cert.KernelIdeal Cert.KernelIdeal.Gen Cert.Blocks Cert.Spec Cert.Net

variable (m : (ℓ : Loc nD τ sig) → Buf (Elt E) ℓ) (ρ : Dev nD → PrngReg) (c : Dev nD)

/-- The problem's data, from the launch's arguments. -/
def data : Data where
  X r q := m ((c : Thread nD τ).loc main_arg0) (ix2 r q)
  W1 j k := m ((c : Thread nD τ).loc main_arg2) (ix2 j k)
  b1 k := m ((c : Thread nD τ).loc main_arg3) (ix1 k)
  W2 k q := m ((c : Thread nD τ).loc main_arg4) (ix2 k q)
  b2 q := m ((c : Thread nD τ).loc main_arg5) (ix1 q)

/-- The transposed second weight matrix. -/
theorem entry_w2 (q : Fin 17408) (k : Fin 64) :
    V m c main_v0 (ix2 q k) = m ((c : Thread nD τ).loc main_arg4) (ix2 k q) := by
  unfold V V0
  after_reads_at

/-- The first bias as a row. -/
theorem entry_b1 (k : Fin 64) : V m c main_v4 (ix2 0 k) = m ((c : Thread nD τ).loc main_arg3) (ix1 k) := by
  unfold V V0
  after_reads_at

/-- The second bias regrouped plane by plane. -/
theorem entry_b2 (q q' : Fin 17408) (h : q'.val = q.val % 1024 * 17 + q.val / 1024) :
    V m c main_v3 (ix2 0 q) = m ((c : Thread nD τ).loc main_arg5) (ix1 q') := by
  unfold V V0
  after_reads_at
  exact congrArg (fun z => m ((c : Thread nD τ).loc main_arg5) (ix1 z)) (Fin.ext h.symm)

/-- The window's row of the grid point. -/
theorem index0 (t : Fin cfg0.N) : win0_0.index t 0 = t.val ∧ win0_0.index t 1 = 0 := by
  rcases fin_N0 t with rfl | rfl | rfl | rfl | rfl | rfl | rfl | rfl <;> decide
theorem index1 (t : Fin cfg0.N) : win0_1.index t 0 = 0 ∧ win0_1.index t 1 = 0 := by
  rcases fin_N0 t with rfl | rfl | rfl | rfl | rfl | rfl | rfl | rfl <;> decide
theorem index2 (t : Fin cfg0.N) : win0_2.index t 0 = 0 ∧ win0_2.index t 1 = 0 := by
  rcases fin_N0 t with rfl | rfl | rfl | rfl | rfl | rfl | rfl | rfl <;> decide
theorem index3 (t : Fin cfg0.N) : win0_3.index t 0 = 0 ∧ win0_3.index t 1 = 0 := by
  rcases fin_N0 t with rfl | rfl | rfl | rfl | rfl | rfl | rfl | rfl <;> decide
theorem index4 (t : Fin cfg0.N) : win0_4.index t 0 = 0 ∧ win0_4.index t 1 = 0 := by
  rcases fin_N0 t with rfl | rfl | rfl | rfl | rfl | rfl | rfl | rfl <;> decide
theorem index5 (t : Fin cfg0.N) : win0_5.index t 0 = t.val ∧ win0_5.index t 1 = 0 := by
  rcases fin_N0 t with rfl | rfl | rfl | rfl | rfl | rfl | rfl | rfl <;> decide
theorem index6 (t : Fin cfg0.N) : win0_6.index t 0 = t.val ∧ win0_6.index t 1 = 0 := by
  rcases fin_N0 t with rfl | rfl | rfl | rfl | rfl | rfl | rfl | rfl <;> decide

theorem point_lt (t : Fin cfg0.N) : t.val < 8 := Nat.lt_of_lt_of_eq t.isLt N_0

/-- The input's row under row `r` of the block at point `t`. -/
def row (t : Fin cfg0.N) (r : Fin 256) : Fin 2048 := ⟨t.val * 256 + r.val, by have := point_lt t; omega⟩

theorem block0 (t : Fin cfg0.N) (r : Fin 256) (q : Fin 2048) :
    (iblk m c 0 t : Vec E S256x2048 .f32) (ix2 r q) = (data m c).X (row t r) q := by
  unfold iblk
  rw [View.read_apply]
  show V m c main_arg0 _ = m ((c : Thread nD τ).loc main_arg0) _
  rw [V_main_arg0]
  refine congrArg (m ((c : Thread nD τ).loc main_arg0)) (Shape.idx_ext₂ ?_ ?_)
  · show win0_0.index t 0 * 256 + 1 * r.val = t.val * 256 + r.val; rw [(index0 t).1]; omega
  · show win0_0.index t 1 * 2048 + 1 * q.val = q.val; rw [(index0 t).2]; omega

theorem block1 (t : Fin cfg0.N) (j : Fin 1024) (k : Fin 64) :
    (iblk m c 1 t : Vec E S1024x64 .f32) (ix2 j k) = (data m c).W1 j k := by
  unfold iblk
  rw [View.read_apply]
  show V m c main_arg2 _ = m ((c : Thread nD τ).loc main_arg2) _
  rw [V_main_arg2]
  refine congrArg (m ((c : Thread nD τ).loc main_arg2)) (Shape.idx_ext₂ ?_ ?_)
  · show win0_1.index t 0 * 1024 + 1 * j.val = j.val; rw [(index1 t).1]; omega
  · show win0_1.index t 1 * 64 + 1 * k.val = k.val; rw [(index1 t).2]; omega

theorem block2 (t : Fin cfg0.N) (k : Fin 64) :
    (iblk m c 2 t : Vec E S1x64 .f32) (ix2 0 k) = (data m c).b1 k := by
  unfold iblk
  rw [View.read_apply]
  refine Eq.trans (congrArg (V m c main_v4) (Shape.idx_ext₂ (y := ix2 0 k) ?_ ?_)) (entry_b1 m c k)
  · show win0_2.index t 0 * 1 + 1 * 0 = 0; rw [(index2 t).1]
  · show win0_2.index t 1 * 64 + 1 * k.val = k.val; rw [(index2 t).2]; omega

theorem block3 (t : Fin cfg0.N) (q : Fin 17408) (k : Fin 64) :
    (iblk m c 3 t : Vec E S17408x64 .f32) (ix2 q k) = (data m c).W2 k q := by
  unfold iblk
  rw [View.read_apply]
  refine Eq.trans (congrArg (V m c main_v0) (Shape.idx_ext₂ (y := ix2 q k) ?_ ?_)) (entry_w2 m c q k)
  · show win0_3.index t 0 * 17408 + 1 * q.val = q.val; rw [(index3 t).1]; omega
  · show win0_3.index t 1 * 64 + 1 * k.val = k.val; rw [(index3 t).2]; omega

theorem block4 (t : Fin cfg0.N) (q q' : Fin 17408) (h : q'.val = q.val % 1024 * 17 + q.val / 1024) :
    (iblk m c 4 t : Vec E S1x17408 .f32) (ix2 0 q) = (data m c).b2 q' := by
  unfold iblk
  rw [View.read_apply]
  refine Eq.trans (congrArg (V m c main_v3) (Shape.idx_ext₂ (y := ix2 0 q) ?_ ?_)) (entry_b2 m c q q' h)
  · show win0_4.index t 0 * 1 + 1 * 0 = 0; rw [(index4 t).1]
  · show win0_4.index t 1 * 17408 + 1 * q.val = q.val; rw [(index4 t).2]; omega

/-- The blocks at a point are operands of the problem's data. -/
theorem operands (t : Fin cfg0.N) : Operands (data m c) (row t) (iblk m c 0 t) (iblk m c 1 t) (iblk m c 2 t) (iblk m c 3 t) (iblk m c 4 t) :=
  ⟨block0 m c t, block1 m c t, block2 m c t, block3 m c t, block4 m c t⟩

/-- The transposed weights are one array at every point. -/
theorem block3_eq (t t' : Fin cfg0.N) : (iblk m c 3 t : Vec E S17408x64 .f32) = iblk m c 3 t' := by
  funext y
  idx_vars y
  rw [block3, block3]

/-- What the two outputs' buffers and the scratch hold after a point. -/
theorem outs_eq : ∀ (n : ℕ) (h : n < cfg0.N), outsAt0 m c n h =
    (outPhi (iblk m c 0 ⟨n, h⟩) (iblk m c 1 ⟨n, h⟩) (iblk m c 2 ⟨n, h⟩) (permuted (iblk m c 3 ⟨n, h⟩)) (iblk m c 4 ⟨n, h⟩),
     outLog (iblk m c 0 ⟨n, h⟩) (iblk m c 1 ⟨n, h⟩) (iblk m c 2 ⟨n, h⟩) (permuted (iblk m c 3 ⟨n, h⟩)) (iblk m c 4 ⟨n, h⟩),
     permuted (iblk m c 3 ⟨n, h⟩))
  | 0, h => by
    rw [outsAt0_A m c ⟨0, h⟩ rfl, phi_A, log_A, scratch_A]
  | n + 1, h => by
    have hN : cfg0.N = 8 := N_0
    have hB : ¬(⟨n + 1, h⟩ : Fin cfg0.N).val % 8 = 0 := by dsimp only; omega
    have hs : (outsAt0 m c ((⟨n + 1, h⟩ : Fin cfg0.N).val - 1) (Nat.lt_of_le_of_lt (Nat.sub_le _ _) (⟨n + 1, h⟩ : Fin cfg0.N).isLt)).2.2
        = permuted (iblk m c 3 ⟨n + 1, h⟩) := by
      show (outsAt0 m c n _).2.2 = _
      rw [outs_eq n, block3_eq m c ⟨n, _⟩ ⟨n + 1, h⟩]
    rw [outsAt0_B m c ⟨n + 1, h⟩ hB, hs, phi_B, log_B]
    rfl

/-- The first result. -/
def result0 : Buf (Elt E) ((c : Thread nD τ).loc main_v5_0) := fun i : S2048x2048.Idx => out (data m c) (i 0) (i 1)

/-- The kernel's second output array. -/
def result1 : Buf (Elt E) ((c : Thread nD τ).loc main_v5_1) := fun i : S2048x1.Idx => 0 - logs (data m c) (i 0)

variable (hx : ∀ r q, xb (data m c) r q ≠ ⊥)
include hx

theorem flushed5 (t : Fin cfg0.N) (hf : (cfg0.win 5).flush t = true) :
    (dats m 0 c).flushed 5 t = ((cfg0.win 5).blk t).view.read (Elt E) (result0 m c) := by
  show (cfg0.win 5).cut (grid0.coords t) ((dats m 0 c).after 5 t) = _
  rw [after0_5, outs_eq]
  funext y
  have h : ((outPhi (iblk m c 0 t) (iblk m c 1 t) (iblk m c 2 t) (permuted (iblk m c 3 t)) (iblk m c 4 t) : Vec E S256x2048 .f32)
      (ix2 (y 0) (y 1))) = _ := outPhi_at (operands m c t) hx (y 0) (y 1)
  refine Eq.trans (congrArg (outPhi (iblk m c 0 t) (iblk m c 1 t) (iblk m c 2 t) (permuted (iblk m c 3 t)) (iblk m c 4 t)) (Shape.idx_ext₂ (y := ix2 (y 0) (y 1)) rfl rfl)) (h.trans ?_)
  rw [View.read_apply]
  show out (data m c) (row t (y 0)) (y 1) = out (data m c) _ _
  refine congrArg₂ _ (Fin.ext ?_) (Fin.ext ?_)
  · show t.val * 256 + (y 0).val = win0_5.index t 0 * 256 + 1 * (y 0).val; rw [(index5 t).1]; omega
  · show (y 1).val = win0_5.index t 1 * 2048 + 1 * (y 1).val; rw [(index5 t).2]; omega

theorem flushed6 (t : Fin cfg0.N) (hf : (cfg0.win 6).flush t = true) :
    (dats m 0 c).flushed 6 t = ((cfg0.win 6).blk t).view.read (Elt E) (result1 m c) := by
  show (cfg0.win 6).cut (grid0.coords t) ((dats m 0 c).after 6 t) = _
  rw [after0_6, outs_eq]
  funext y
  have h : ((outLog (iblk m c 0 t) (iblk m c 1 t) (iblk m c 2 t) (permuted (iblk m c 3 t)) (iblk m c 4 t) : Vec E S256x1 .f32)
      (ix2 (y 0) (y 1))) = _ := outLog_at (operands m c t) hx (y 0) (y 1)
  refine Eq.trans (congrArg (outLog (iblk m c 0 t) (iblk m c 1 t) (iblk m c 2 t) (permuted (iblk m c 3 t)) (iblk m c 4 t)) (Shape.idx_ext₂ (y := ix2 (y 0) (y 1)) rfl rfl)) (h.trans ?_)
  rw [View.read_apply]
  show 0 - logs (data m c) (row t (y 0)) = 0 - logs (data m c) _
  refine congrArg (fun r => 0 - logs (data m c) r) (Fin.ext ?_)
  show t.val * 256 + (y 0).val = win0_6.index t 0 * 256 + 1 * (y 0).val; rw [(index6 t).1]; omega

/-- The first output array after the run. -/
theorem final5 : (dats m 0 c).arrAt 5 cfg0.N = result0 m c :=
  (dats m 0 c).arrAt_eq_of_cover 5 (result0 m c) (flushed5 m c hx) fun (i : S2048x2048.Idx) => by
    have h0 : (i 0 : Nat) < 2048 := (i 0).isLt
    have h1 : (i 1 : Nat) < 2048 := (i 1).isLt
    have hN : cfg0.N = 8 := N_0
    have ht : (i 0 : Nat) / 256 < cfg0.N := by omega
    refine ⟨⟨(i 0 : Nat) / 256, ht⟩, flush0_5 _, ?_⟩
    show i ∈ ((View.whole main_v5_0).slice (win0_5.rect ⟨(i 0 : Nat) / 256, ht⟩)).set
    rw [View.set_slice_whole, Rect.mem_set_unit]
    intro a
    match a with
    | ⟨0, _⟩ =>
      show win0_5.index ⟨(i 0 : Nat) / 256, ht⟩ 0 * 256 ≤ (i 0 : Nat) ∧ (i 0 : Nat) < win0_5.index ⟨(i 0 : Nat) / 256, ht⟩ 0 * 256 + 256
      rw [(index5 _).1]; dsimp only; omega
    | ⟨1, _⟩ =>
      show win0_5.index ⟨(i 0 : Nat) / 256, ht⟩ 1 * 2048 ≤ (i 1 : Nat) ∧ (i 1 : Nat) < win0_5.index ⟨(i 0 : Nat) / 256, ht⟩ 1 * 2048 + 2048
      rw [(index5 _).2]; omega

/-- The second output array after the run. -/
theorem final6 : (dats m 0 c).arrAt 6 cfg0.N = result1 m c :=
  (dats m 0 c).arrAt_eq_of_cover 6 (result1 m c) (flushed6 m c hx) fun (i : S2048x1.Idx) => by
    have h0 : (i 0 : Nat) < 2048 := (i 0).isLt
    have h1 : (i 1 : Nat) < 1 := (i 1).isLt
    have hN : cfg0.N = 8 := N_0
    have ht : (i 0 : Nat) / 256 < cfg0.N := by omega
    refine ⟨⟨(i 0 : Nat) / 256, ht⟩, flush0_6 _, ?_⟩
    show i ∈ ((View.whole main_v5_1).slice (win0_6.rect ⟨(i 0 : Nat) / 256, ht⟩)).set
    rw [View.set_slice_whole, Rect.mem_set_unit]
    intro a
    match a with
    | ⟨0, _⟩ =>
      show win0_6.index ⟨(i 0 : Nat) / 256, ht⟩ 0 * 256 ≤ (i 0 : Nat) ∧ (i 0 : Nat) < win0_6.index ⟨(i 0 : Nat) / 256, ht⟩ 0 * 256 + 256
      rw [(index6 _).1]; dsimp only; omega
    | ⟨1, _⟩ =>
      show win0_6.index ⟨(i 0 : Nat) / 256, ht⟩ 1 * 1 ≤ (i 1 : Nat) ∧ (i 1 : Nat) < win0_6.index ⟨(i 0 : Nat) / 256, ht⟩ 1 * 1 + 1
      rw [(index6 _).2]; omega

/-- The second result: the log density less the sum of the slopes' logarithms. -/
def result2 : Buf (Elt E) ((c : Thread nD τ).loc main_v6) :=
  (addf (m ((c : Thread nD τ).loc main_arg1) : FVec E S2048x1 .f32) (result1 m c : FVec E S2048x1 .f32) : FVec E S2048x1 .f32)

/-- What the line after the kernel leaves. -/
theorem tail6 : Pipeline.afterTail₀ cfgs (dats m) 0 (V0 m) [hostOps1] c main_v6 = result2 m c := by
  have h6 : Pipeline.withArrays (cfgs 0).spec c (V0 m c) (fun w => (dats m 0 c).arrAt w (cfgs 0).N) (Proc.devRef .tc main_v5_1) = result1 m c :=
    (Pipeline.withArrays_arr (cfgs 0).spec launch0.win.arr_inj c (V0 m c) (fun w => (dats m 0 c).arrAt w (cfgs 0).N) 6).trans (final6 m c hx)
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne (cfgs 0).spec c (V0 m c) (fun w => (dats m 0 c).arrAt w (cfgs 0).N) main_arg1 (by decide)).trans (V_main_arg1 m c)
  unfold Pipeline.afterTail₀
  generalize Pipeline.withArrays (cfgs 0).spec c (V0 m c) (fun w => (dats m 0 c).arrAt w (cfgs 0).N) = W at h6 h1
  refine Eq.trans (b := addf (W (Proc.devRef .tc main_arg1) : FVec E S2048x1 .f32) (W (Proc.devRef .tc main_v5_1))) (by after_results; rfl) ?_
  rw [h6, h1]
  rfl

omit hx in
/-- The run: both results named, the arguments unchanged. -/
theorem run (hx : ∀ c r q, xb (data m c) r q ≠ ⊥) : θ_run defs (onTc (τ := τ) (main (F := E))) ⟨m, fun _ => 0, ρ⟩ fun r => ∀ c : Dev nD,
      (r.2.mem ((c : Thread nD τ).loc main_v5_0) = result0 m c ∧ r.2.mem ((c : Thread nD τ).loc main_v6) = result2 m c)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨⟨((h.1 c).1 5).trans (final5 m c (hx c)),
      ((h.1 c).2 main_v6 (Pipeline.mem_restRefs_of main_v6 (by decide) (by decide))).trans (tail6 m c (hx c))⟩, h.2 c⟩)
    (θ_run_and (run_main m ρ) (unchanged m ρ))

end Cert.Arrays

end
-- ==== Proof.HostOps.lean ====
/- Two host operations of the reference read at an index: the gather that `take_along_axis` along the last axis prints, and
   the window sum that a cumulative sum along the last axis prints. -/
module

public import Idealize.ShloMosaic.Lib.Pointwise
public import Idealize.ShloMosaic.PureOps.Ideal
public import proofs.«01_k».proof.Proof.Gen.ReferenceIdeal.Read

@[expose] public section

set_option maxRecDepth 16384

noncomputable section

namespace Cert.HostOps

open Idealize.ShloMosaic Idealize.ShloMosaic.Pointwise
open Cert.ReferenceIdeal Cert.ReferenceIdeal.Gen

/-- The dimension numbers of `take_along_axis` along the last axis of an `[R, C, N]` array, one index per pair. -/
def along (R C N : Nat) (wf : GatherDims.WF ⟨3, ![R, C, N]⟩ ⟨4, ![R, C, 1, 1]⟩ ⟨3, ![R, C, 1]⟩ [] [2] [0, 1] [2] [0, 1] 3 ![1, 1, 1]) :
    GatherDims ⟨3, ![R, C, N]⟩ ⟨4, ![R, C, 1, 1]⟩ ⟨3, ![R, C, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The gather at a pair: the operand's entry at that pair's index, read signed and clamped. -/
theorem along_at {α : Type} {R C N w : Nat} (hN : 0 < N)
    (wf : GatherDims.WF ⟨3, ![R, C, N]⟩ ⟨4, ![R, C, 1, 1]⟩ ⟨3, ![R, C, 1]⟩ [] [2] [0, 1] [2] [0, 1] 3 ![1, 1, 1])
    (x : (⟨3, ![R, C, N]⟩ : Shape).Idx → α) (idx : IVec ⟨4, ![R, C, 1, 1]⟩ w) (r : Fin R) (c : Fin C) :
    Host.gather (along R C N wf) x idx (ix3 r c 0)
      = x (ix3 r c ⟨min (idx (ix4 r c 0 0)).toInt.toNat (N - 1), by omega⟩) := by
  have hk : ∀ a, (along R C N wf).offCoord (ix3 r c 0) a = 0 := fun a =>
    GatherDims.offCoord_eq_zero _ _ _ fun h => by
      have h' := (GatherDims.mem_sKept _ _).mp h
      match a with
      | ⟨0, _⟩ => exact h'.2 (List.mem_cons_self ..)
      | ⟨1, _⟩ => exact h'.2 (List.mem_cons_of_mem _ (List.mem_cons_self ..))
      | ⟨2, _⟩ => exact h'.1 (List.mem_cons_self ..)
  unfold Host.gather
  refine congrArg x (funext fun a => Fin.ext ?_)
  show (along R C N wf).start (ix3 r c 0) idx a + (along R C N wf).batchCoord (ix3 r c 0) a + (along R C N wf).offCoord (ix3 r c 0) a = _
  rw [hk a]
  match a with
  | ⟨0, _⟩ =>
    rw [GatherDims.start_batching _ _ _ _ (List.mem_cons_self ..)]
    show 0 + r.val + 0 = r.val
    omega
  | ⟨1, _⟩ =>
    rw [GatherDims.start_batching _ _ _ _ (List.mem_cons_of_mem _ (List.mem_cons_self ..))]
    show 0 + c.val + 0 = c.val
    omega
  | ⟨2, _⟩ =>
    have h2 : (⟨2, by decide⟩ : Fin 3) ∉ (along R C N wf).operandBatchingDims := by
      show (⟨2, by decide⟩ : Fin 3) ∉ ([0, 1] : List (Fin 3))
      decide
    rw [GatherDims.batchCoord_eq_zero _ _ _ h2]
    have hm : (⟨2, by decide⟩ : Fin 3) ∈ (along R C N wf).startIndexMap := List.mem_cons_self ..
    unfold GatherDims.start
    rw [dif_pos hm]
    have hsi : (along R C N wf).siIdx (ix3 r c 0) ⟨List.idxOf (⟨2, by decide⟩ : Fin 3) (along R C N wf).startIndexMap,
        List.idxOf_lt_length_iff.2 hm⟩ = ix4 r c 0 0 := by
      funext b; refine Fin.ext ?_
      match b with
      | ⟨0, _⟩ => rfl
      | ⟨1, _⟩ => rfl
      | ⟨2, _⟩ => rfl
      | ⟨3, _⟩ => rfl
    rw [hsi]
    rfl

/-- A left fold of additions of real numbers. -/
theorem foldl_real {ι : Type} (L : List ι) (t : ι → EReal) (g : ι → ℝ) (h : ∀ n ∈ L, t n = (g n : EReal)) (a : ℝ) :
    L.foldl (fun r n => r + t n) (a : EReal) = ((a + (L.map g).sum : ℝ) : EReal) := by
  induction L generalizing a with
  | nil => simp
  | cons n L ih =>
    rw [List.foldl_cons, h n (List.mem_cons_self ..), ← EReal.coe_add, ih (fun k hk => h k (List.mem_cons_of_mem _ hk)),
      List.map_cons, List.sum_cons, add_assoc]

/-- The window's positions along the last axis. -/
theorem window_pos : ∀ n : Fin ((⟨3, ![1, 1, 8]⟩ : Shape).numel),
    ((⟨3, ![1, 1, 8]⟩ : Shape).rowMajor.symm n 0).val = 0 ∧ ((⟨3, ![1, 1, 8]⟩ : Shape).rowMajor.symm n 1).val = 0
      ∧ ((⟨3, ![1, 1, 8]⟩ : Shape).rowMajor.symm n 2).val = n.val := by decide

theorem sum_window (f : ℕ → ℝ) (k : Fin 8) :
    ((List.finRange ((⟨3, ![1, 1, 8]⟩ : Shape).numel)).map fun n => if 7 ≤ k.val + n.val then f (k.val + n.val - 7) else 0).sum
      = ∑ j ∈ Finset.range (k.val + 1), f j := by
  show ((List.finRange 8).map fun n : Fin 8 => if 7 ≤ k.val + n.val then f (k.val + n.val - 7) else 0).sum = _
  rw [← Fin.sum_univ_def]
  fin_cases k <;> simp [Fin.sum_univ_eight, Finset.sum_range_succ]

/-- The cumulative sum at an index. -/
theorem cumsum_at (x : FVec Ideal S2048x1024x8 .f32) (init : FVec Ideal S_ .f32) (hi : ∀ i, init i = 0)
    (h : S2048x1024x8.ReduceWindows (![1, 1, 8] : Fin 3 → Nat) ![1, 1, 1] ![0, 0, 7] ![0, 0, 0] S2048x1024x8) (hu : 0 < S_.numel)
    (f : ℕ → ℝ) (r : Fin 2048) (c : Fin 1024) (hx : ∀ k : Fin 8, x (ix3 r c k) = (f k.val : EReal)) (k : Fin 8) :
    Host.reduceWindowAdd ![1, 1, 8] ![1, 1, 1] ![0, 0, 7] ![0, 0, 0] x init h hu (ix3 r c k)
      = ((∑ j ∈ Finset.range (k.val + 1), f j : ℝ) : EReal) := by
  have hk := k.isLt
  have hr := r.isLt
  have hc := c.isLt
  show Host.reduceWindow (· + ·) ![1, 1, 8] ![1, 1, 1] ![0, 0, 7] ![0, 0, 0] x init h hu (ix3 r c k) = _
  unfold Host.reduceWindow
  dsimp only
  rw [hi]
  refine (foldl_real _ _ (fun n => if 7 ≤ k.val + n.val then f (k.val + n.val - 7) else 0) (fun n _ => ?_) 0).trans ?_
  · obtain ⟨h0, h1, h2⟩ := window_pos n
    have hn : n.val < 8 := n.isLt
    split
    · next hin =>
      have h7 := hin 2
      change 7 ≤ k.val * 1 + ((⟨3, ![1, 1, 8]⟩ : Shape).rowMajor.symm n 2).val ∧ _ at h7
      rw [h2] at h7
      rw [if_pos (by omega)]
      refine (congrArg x (funext fun a => Fin.ext ?_)).trans (hx ⟨k.val + n.val - 7, by omega⟩)
      match a with
      | ⟨0, _⟩ => show r.val * 1 + ((⟨3, ![1, 1, 8]⟩ : Shape).rowMajor.symm n 0).val - 0 = r.val; rw [h0]; omega
      | ⟨1, _⟩ => show c.val * 1 + ((⟨3, ![1, 1, 8]⟩ : Shape).rowMajor.symm n 1).val - 0 = c.val; rw [h1]; omega
      | ⟨2, _⟩ => show k.val * 1 + ((⟨3, ![1, 1, 8]⟩ : Shape).rowMajor.symm n 2).val - 7 = k.val + n.val - 7; rw [h2]; omega
    · next hin =>
      rw [if_neg fun hle => hin fun a => by
        match a with
        | ⟨0, _⟩ =>
          show 0 ≤ r.val * 1 + ((⟨3, ![1, 1, 8]⟩ : Shape).rowMajor.symm n 0).val ∧ r.val * 1 + ((⟨3, ![1, 1, 8]⟩ : Shape).rowMajor.symm n 0).val - 0 < 2048
          rw [h0]; omega
        | ⟨1, _⟩ =>
          show 0 ≤ c.val * 1 + ((⟨3, ![1, 1, 8]⟩ : Shape).rowMajor.symm n 1).val ∧ c.val * 1 + ((⟨3, ![1, 1, 8]⟩ : Shape).rowMajor.symm n 1).val - 0 < 1024
          rw [h1]; omega
        | ⟨2, _⟩ =>
          show 7 ≤ k.val * 1 + ((⟨3, ![1, 1, 8]⟩ : Shape).rowMajor.symm n 2).val ∧ k.val * 1 + ((⟨3, ![1, 1, 8]⟩ : Shape).rowMajor.symm n 2).val - 7 < 8
          rw [h2]; omega]
      rfl
  · rw [zero_add, sum_window]

/-- A maximum along the last axis of three. -/
theorem max_last {R C N : Nat} {u : Shape} (v : FVec Ideal ⟨3, ![R, C, N]⟩ .f32) (b : FVec Ideal u .f32)
    (h : (⟨3, ![R, C, N]⟩ : Shape).ReducesTo [2] ⟨2, ![R, C]⟩) (hu : 0 < u.numel) (r : Fin R) (c : Fin C) :
    Host.reduce FloatOps.maximumf v b h hu (ix2 r c)
      = Finset.univ.fold max (b (Shape.Idx.first hu)) fun k : Fin N => v (ix3 r c k) := by
  pointwise

/-- The largest of finitely many reals is a real. -/
theorem fold_max_real {ι : Type} [DecidableEq ι] (g : ι → ℝ) (s : Finset ι) :
    s = ∅ ∨ ∃ M : ℝ, Finset.fold max (⊥ : EReal) (fun i => (g i : EReal)) s = (M : EReal) := by
  induction s using Finset.induction_on with
  | empty => exact .inl rfl
  | insert a s ha ih =>
    right
    rw [Finset.fold_insert ha]
    rcases ih with rfl | ⟨M, hM⟩
    · exact ⟨g a, by rw [Finset.fold_empty]; exact max_eq_left bot_le⟩
    · rw [hM]
      rcases le_total (g a) M with h | h
      · exact ⟨M, max_eq_right (EReal.coe_le_coe_iff.2 h)⟩
      · exact ⟨g a, max_eq_left (EReal.coe_le_coe_iff.2 h)⟩

/-- A sum along the middle axis of three, the last of length one. -/
theorem sum_middle {R C : Nat} {u : Shape} (v : FVec Ideal ⟨3, ![R, C, 1]⟩ .f32) (b : FVec Ideal u .f32)
    (h : (⟨3, ![R, C, 1]⟩ : Shape).ReducesTo [1] ⟨2, ![R, 1]⟩) (hu : 0 < u.numel) (r : Fin R) :
    Host.reduceAdd v b h hu (ix2 r 0) = b (Shape.Idx.first hu) + ∑ c : Fin C, v (ix3 r c 0) := by
  pointwise

/-- The maximum with -∞. -/
theorem max_bot {a b : Ideal .f32} (h : a = (⊥ : EReal)) : FloatOps.maximumf a b = b := by
  subst h
  exact max_eq_right bot_le

/-- A maximum of real numbers along the last axis is a real number. -/
theorem max_last_real {R C N : Nat} {u : Shape} (hN : 0 < N) (v : FVec Ideal ⟨3, ![R, C, N]⟩ .f32) (b : FVec Ideal u .f32)
    (h : (⟨3, ![R, C, N]⟩ : Shape).ReducesTo [2] ⟨2, ![R, C]⟩) (hu : 0 < u.numel) (r : Fin R) (c : Fin C) (g : Fin N → ℝ)
    (hv : ∀ k, v (ix3 r c k) = (g k : EReal)) (hb : ∀ i, b i = (⊥ : EReal)) :
    ∃ M : ℝ, Host.reduce FloatOps.maximumf v b h hu (ix2 r c) = (M : EReal) := by
  rw [max_last, hb]
  simp only [hv]
  rcases fold_max_real g Finset.univ with he | hM
  · exact absurd (he ▸ Finset.mem_univ (⟨0, hN⟩ : Fin N)) (Finset.notMem_empty _)
  · exact hM

/-- An integer sum along the last axis of three. -/
theorem addi_last {R C N w : Nat} {u : Shape} (v : IVec ⟨3, ![R, C, N]⟩ w) (b : IVec u w)
    (h : (⟨3, ![R, C, N]⟩ : Shape).ReducesTo [2] ⟨2, ![R, C]⟩) (hu : 0 < u.numel) (r : Fin R) (c : Fin C) :
    Host.reduce IntOp.addi v b h hu (ix2 r c)
      = Finset.univ.fold IntOp.addi (b (Shape.Idx.first hu)) fun k : Fin N => v (ix3 r c k) := by
  pointwise

/-- A conjunction along a last axis of length one. -/
theorem andi_last {R C : Nat} {u : Shape} (v : IVec ⟨4, ![R, C, 1, 1]⟩ 1) (b : IVec u 1)
    (h : (⟨4, ![R, C, 1, 1]⟩ : Shape).ReducesTo [3] ⟨3, ![R, C, 1]⟩) (hu : 0 < u.numel) (r : Fin R) (c : Fin C) :
    Host.reduce IntOp.andi v b h hu (ix3 r c 0) = IntOp.andi (v (ix4 r c 0 0)) (b (Shape.Idx.first hu)) := by
  pointwise
  rw [Finset.univ_unique, Finset.fold_singleton]
  rfl

end Cert.HostOps

end
-- ==== Proof.Params.lean ====
/- The reference's parameters at a coordinate: the net's outputs, the normalized widths (a softmax), the normalized heights. -/
module

public import proofs.«01_k».proof.Proof.Spec
public import proofs.«01_k».proof.Proof.HostOps
public import proofs.«01_k».proof.Proof.Gen.ReferenceIdeal.Read
public import Idealize.ShloMosaic.Lib.Pointwise

@[expose] public section

set_option maxRecDepth 16384

noncomputable section

namespace Cert.Params

open Idealize.ShloMosaic Idealize.ShloMosaic.Pointwise
open Cert.ReferenceIdeal Cert.ReferenceIdeal.Gen Cert.ReferenceIdeal.Read Cert.Spec Cert.Spline Cert.Words
open Cert.HostOps

/-- The reference runs at the ideal reals. -/
abbrev E := Idealize.ShloMosaic.Ideal

/-- A sum of reals. -/
theorem sum_real (f : ℕ → ℝ) : (∑ k : Fin 8, (f k.val : EReal)) = ((∑ k : Fin 8, f k.val : ℝ) : EReal) := by
  simp only [Fin.sum_univ_eight, EReal.coe_add]

/-- Subtracting a number from every exponent leaves the softmax. -/
theorem softmax_shift (p : ℕ → ℝ) (M : ℝ) (k : ℕ) :
    Real.exp (p (9 + k) - M) / ∑ j : Fin 8, Real.exp (p (9 + j.val) - M) = wn (wOf p) k := by
  have h : ∑ j : Fin 8, Real.exp (p (9 + j.val) - M) = (∑ j : Fin 8, Real.exp (p (9 + j.val))) / Real.exp M := by
    rw [Finset.sum_div]; exact Finset.sum_congr rfl fun j _ => Real.exp_sub _ _
  rw [h, Real.exp_sub, div_div_div_cancel_right₀ (Real.exp_pos M).ne', wn, cum, Finset.sum_range]
  rfl

variable (x0 : (⟨S2048x2048, .f32⟩ : BufTy).Contents (Elt E)) (x2 : (⟨S1024x64, .f32⟩ : BufTy).Contents (Elt E))
  (x3 : (⟨S64, .f32⟩ : BufTy).Contents (Elt E)) (x4 : (⟨S64x17408, .f32⟩ : BufTy).Contents (Elt E))
  (x5 : (⟨S17408, .f32⟩ : BufTy).Contents (Elt E)) (r : Fin 2048) (c : Fin 1024)

/-- The reference's arguments as the problem's data. -/
def dat : Data where
  X r q := x0 (ix2 r q)
  W1 j k := x2 (ix2 j k)
  b1 k := x3 (ix1 k)
  W2 k q := x4 (ix2 k q)
  b2 q := x5 (ix1 q)

/-- The net's outputs. -/
theorem net_at (q : Fin 17408) : val_main_v13 (F := E) x0 x2 x3 x4 x5 (ix2 r q) = net (dat x0 x2 x3 x4 x5) r q := by
  pointwise [val_main_v13, val_main_v12, val_main_v11, val_main_v10, val_main_v9, val_main_v8, val_main_v7, val_main_v6,
    val_main_v5, val_main_v4, val_main_v3, val_main_v2, val_main_cst, val_main_v0]
  rfl

/-- The seventeen planes … -/
theorem v14_at (k : Fin 17) : val_main_v14 (F := E) x0 x2 x3 x4 x5 (ix3 r c k) = (par (dat x0 x2 x3 x4 x5) r c k.val : EReal) := by
  pointwise [val_main_v14]
  rw [net_at]
  exact par_coe _ _ _ _ _ rfl

/-- … the heights' … -/
theorem v15_at (k : Fin 9) : val_main_v15 (F := E) x0 x2 x3 x4 x5 (ix3 r c k) = (par (dat x0 x2 x3 x4 x5) r c k.val : EReal) := by
  rw [val_main_v15_apply]
  refine (congrArg _ (eq_ix3 _)).trans (v14_at x0 x2 x3 x4 x5 r c ⟨k.val, by omega⟩)

/-- … and the widths'. -/
theorem v16_at (k : Fin 8) : val_main_v16 (F := E) x0 x2 x3 x4 x5 (ix3 r c k) = (par (dat x0 x2 x3 x4 x5) r c (9 + k.val) : EReal) := by
  pointwise [val_main_v16, val_main_v14]
  rw [net_at]
  exact par_coe _ _ _ _ _ rfl

/-- The maximum along the widths' planes … -/
theorem v17_at : ∃ M : ℝ, val_main_v17 (F := E) x0 x2 x3 x4 x5 (ix2 r c) = (M : EReal) := by
  have hv := v16_at x0 x2 x3 x4 x5 r c
  unfold val_main_v17
  generalize val_main_v16 (F := E) x0 x2 x3 x4 x5 = y at hv ⊢
  have hb : ∀ i, val_main_cst_0 (F := E) i = (⊥ : EReal) := fun _ => bot_word
  generalize val_main_cst_0 (F := E) = z at hb ⊢
  exact max_last_real (by decide) y z _ _ r c (fun x => par (dat x0 x2 x3 x4 x5) r c (9 + x.val)) hv hb

/-- … and so the one the softmax subtracts, is a real number. -/
theorem v19_at : ∃ M : ℝ, val_main_v19 (F := E) x0 x2 x3 x4 x5 (ix2 r c) = (M : EReal) := by
  obtain ⟨M, hM⟩ := v17_at x0 x2 x3 x4 x5 r c
  refine ⟨M, ?_⟩
  have h18 : val_main_v18 (F := E) (ix2 r c) = (⊥ : EReal) := by
    pointwise [val_main_v18, val_main_cst_1]
    exact bot_word
  rw [val_main_v19_apply, max_bot h18]
  exact hM

/-- A normalized width. -/
theorem v27_at (k : Fin 8) : val_main_v27 (F := E) x0 x2 x3 x4 x5 (ix3 r c k) = (wn (wOf (par (dat x0 x2 x3 x4 x5) r c)) k.val : EReal) := by
  obtain ⟨M, hM⟩ := v19_at x0 x2 x3 x4 x5 r c
  have hk : ∀ j : Fin 8, val_main_v23 (F := E) x0 x2 x3 x4 x5 (ix3 r c j) = (Real.exp (par (dat x0 x2 x3 x4 x5) r c (9 + j.val) - M) : EReal) := fun j => by
    pointwise [val_main_v23, val_main_v22, val_main_v21, val_main_v20]
    rw [hM, v16_at, ← EReal.coe_sub, Ideal.exp_coe]
  pointwise [val_main_v27, val_main_v26, val_main_v25, val_main_v24, val_main_cst_2]
  simp only [hk]
  rw [sum_real (fun j => Real.exp (par (dat x0 x2 x3 x4 x5) r c (9 + j) - M)),
    div_real (Finset.sum_pos (fun j _ => Real.exp_pos _) Finset.univ_nonempty).ne', softmax_shift]

/-- The exponential of a height. -/
theorem v38_at (k : Fin 9) : val_main_v38 (F := E) x0 x2 x3 x4 x5 (ix3 r c k) = (hOf (par (dat x0 x2 x3 x4 x5) r c) k.val : EReal) := by
  pointwise [val_main_v38]
  rw [v15_at, Ideal.exp_coe, hOf]

/-- The area under the unnormalized heights. -/
theorem v36_at : val_main_v36 (F := E) x0 x2 x3 x4 x5 (ix2 r c)
    = (area (wOf (par (dat x0 x2 x3 x4 x5) r c)) (hOf (par (dat x0 x2 x3 x4 x5) r c)) 8 / (2 * cum (wOf (par (dat x0 x2 x3 x4 x5) r c)) 8) : ℝ) := by
  pointwise [val_main_v36, val_main_v35, val_main_v34, val_main_v33, val_main_v32, val_main_v31, val_main_v30, val_main_v29,
    val_main_v28, val_main_cst_3, val_main_cst_4]
  have ht : ∀ k : Fin 8, Ideal.ofBits FTy.f32 1056964608#32 * val_main_v27 (F := E) x0 x2 x3 x4 x5 (ix3 r c k)
      * (Ideal.exp (val_main_v15 (F := E) x0 x2 x3 x4 x5 (ix3 r c ⟨k.val, by omega⟩)) + Ideal.exp (val_main_v15 (F := E) x0 x2 x3 x4 x5 (ix3 r c ⟨1 + k.val, by omega⟩)))
      = ((1 / 2 * wn (wOf (par (dat x0 x2 x3 x4 x5) r c)) k.val * (hOf (par (dat x0 x2 x3 x4 x5) r c) k.val + hOf (par (dat x0 x2 x3 x4 x5) r c) (k.val + 1)) : ℝ) : EReal) := fun k => by
    rw [v15_at, v15_at, v27_at, half_word, Ideal.exp_coe, Ideal.exp_coe, ← EReal.coe_mul, ← EReal.coe_add, ← EReal.coe_mul]
    show ((1 / 2 * wn (wOf (par (dat x0 x2 x3 x4 x5) r c)) k.val * (Real.exp (par (dat x0 x2 x3 x4 x5) r c k.val) + Real.exp (par (dat x0 x2 x3 x4 x5) r c (1 + k.val))) : ℝ) : EReal) = _
    rw [add_comm 1 k.val]
    rfl
  refine (Finset.sum_congr rfl fun k _ => ht k).trans ?_
  rw [sum_real (fun k => 1 / 2 * wn (wOf (par (dat x0 x2 x3 x4 x5) r c)) k * (hOf (par (dat x0 x2 x3 x4 x5) r c) k + hOf (par (dat x0 x2 x3 x4 x5) r c) (k + 1))), denom_eq]

/-- A normalized height. -/
theorem v40_at (k : Fin 9) : val_main_v40 (F := E) x0 x2 x3 x4 x5 (ix3 r c k)
    = (hn (wOf (par (dat x0 x2 x3 x4 x5) r c)) (hOf (par (dat x0 x2 x3 x4 x5) r c)) k.val : EReal) := by
  pointwise [val_main_v40, val_main_v39, val_main_v37]
  rw [v38_at, v36_at, div_real, hn]
  have h1 := area_pos (wOf_pos (par (dat x0 x2 x3 x4 x5) r c)) (hOf_pos (par (dat x0 x2 x3 x4 x5) r c))
  have h2 := cum_pos (wOf_pos (par (dat x0 x2 x3 x4 x5) r c))
  positivity

end Cert.Params

end
-- ==== Proof.Knots.lean ====
/- The reference's knots: cumulative sums of the normalized widths, and of the trapezoids under the normalized heights. -/
module

public import proofs.«01_k».proof.Proof.Params
public import proofs.«01_k».proof.Proof.Gen.ReferenceIdeal.Read
public import Idealize.ShloMosaic.Lib.Pointwise

@[expose] public section

set_option maxRecDepth 16384

noncomputable section

namespace Cert.Knots

open Idealize.ShloMosaic Idealize.ShloMosaic.Pointwise
open Cert.ReferenceIdeal Cert.ReferenceIdeal.Gen Cert.ReferenceIdeal.Read Cert.Spec Cert.Spline Cert.Words
open Cert.Params Cert.HostOps

/-- A sum of normalized widths. -/
theorem sum_wn (w : ℕ → ℝ) (k : ℕ) : ∑ j ∈ Finset.range k, wn w j = cum w k / cum w 8 := by
  rw [cum, Finset.sum_div]
  rfl

variable (x0 : (⟨S2048x2048, .f32⟩ : BufTy).Contents (Elt E)) (x2 : (⟨S1024x64, .f32⟩ : BufTy).Contents (Elt E))
  (x3 : (⟨S64, .f32⟩ : BufTy).Contents (Elt E)) (x4 : (⟨S64x17408, .f32⟩ : BufTy).Contents (Elt E))
  (x5 : (⟨S17408, .f32⟩ : BufTy).Contents (Elt E)) (r : Fin 2048) (c : Fin 1024)

/-- The knots before `eps` is taken off. -/
theorem v43_at (k : Fin 9) : val_main_v43 (F := E) x0 x2 x3 x4 x5 (ix3 r c k)
    = (cum (wOf (par (dat x0 x2 x3 x4 x5) r c)) k.val / cum (wOf (par (dat x0 x2 x3 x4 x5) r c)) 8 : ℝ) := by
  pointwise [val_main_v43]
  split
  · next h =>
    have hk : k.val = 0 := by omega
    have h0 : ∀ i, val_main_v41 (F := E) i = (0 : EReal) := fun i => zero_word
    have hc : cum (wOf (par (dat x0 x2 x3 x4 x5) r c)) k.val = 0 := by rw [hk, cum, Finset.range_zero, Finset.sum_empty]
    rw [h0, hc, zero_div, EReal.coe_zero]
  · next h =>
    unfold val_main_v42
    refine (cumsum_at _ _ (fun _ => zero_word) _ _ (wn (wOf (par (dat x0 x2 x3 x4 x5) r c))) r c (v27_at x0 x2 x3 x4 x5 r c) _).trans ?_
    rw [sum_wn]
    show ((cum _ (k.val - 1 + 1) / _ : ℝ) : EReal) = _
    rw [Nat.sub_add_cancel (by omega)]

/-- The knots. -/
theorem v45_at (k : Fin 9) : val_main_v45 (F := E) x0 x2 x3 x4 x5 (ix3 r c k)
    = (cum (wOf (par (dat x0 x2 x3 x4 x5) r c)) k.val / cum (wOf (par (dat x0 x2 x3 x4 x5) r c)) 8 - eps : ℝ) := by
  pointwise [val_main_v45, val_main_v44, val_main_cst_6]
  rw [v43_at, eps_word, ← EReal.coe_sub]

/-- A trapezoid under the normalized heights. -/
theorem v52_at (k : Fin 8) : val_main_v52 (F := E) x0 x2 x3 x4 x5 (ix3 r c k)
    = (1 / 2 * wn (wOf (par (dat x0 x2 x3 x4 x5) r c)) k.val * (hn (wOf (par (dat x0 x2 x3 x4 x5) r c)) (hOf (par (dat x0 x2 x3 x4 x5) r c)) k.val
        + hn (wOf (par (dat x0 x2 x3 x4 x5) r c)) (hOf (par (dat x0 x2 x3 x4 x5) r c)) (k.val + 1)) : ℝ) := by
  have h49 : val_main_v49 (F := E) x0 x2 x3 x4 x5 (ix3 r c k) = (hn (wOf (par (dat x0 x2 x3 x4 x5) r c)) (hOf (par (dat x0 x2 x3 x4 x5) r c)) k.val : EReal) := by
    rw [val_main_v49_apply]
    exact (congrArg _ (eq_ix3 _)).trans (v40_at x0 x2 x3 x4 x5 r c ⟨k.val, by omega⟩)
  have h50 : val_main_v50 (F := E) x0 x2 x3 x4 x5 (ix3 r c k) = (hn (wOf (par (dat x0 x2 x3 x4 x5) r c)) (hOf (par (dat x0 x2 x3 x4 x5) r c)) (k.val + 1) : EReal) := by
    rw [add_comm k.val 1]
    pointwise [val_main_v50]
    exact v40_at x0 x2 x3 x4 x5 r c ⟨1 + k.val, by omega⟩
  pointwise [val_main_v52, val_main_v51, val_main_v48, val_main_v47, val_main_cst_8]
  rw [h49, h50, v27_at, half_word, ← EReal.coe_mul, ← EReal.coe_add, ← EReal.coe_mul]

/-- The spline's values at the knots. -/
theorem v54_at (k : Fin 9) : val_main_v54 (F := E) x0 x2 x3 x4 x5 (ix3 r c k)
    = (area (wOf (par (dat x0 x2 x3 x4 x5) r c)) (hOf (par (dat x0 x2 x3 x4 x5) r c)) k.val / area (wOf (par (dat x0 x2 x3 x4 x5) r c)) (hOf (par (dat x0 x2 x3 x4 x5) r c)) 8 : ℝ) := by
  pointwise [val_main_v54]
  split
  · next h =>
    have hk : k.val = 0 := by omega
    have h0 : ∀ i, val_main_v46 (F := E) i = (0 : EReal) := fun i => zero_word
    have hc : area (wOf (par (dat x0 x2 x3 x4 x5) r c)) (hOf (par (dat x0 x2 x3 x4 x5) r c)) k.val = 0 := by rw [hk, area, Finset.range_zero, Finset.sum_empty]
    rw [h0, hc, zero_div, EReal.coe_zero]
  · next h =>
    unfold val_main_v53
    refine (cumsum_at _ _ (fun _ => zero_word) _ _ (fun k => 1 / 2 * wn (wOf (par (dat x0 x2 x3 x4 x5) r c)) k
      * (hn (wOf (par (dat x0 x2 x3 x4 x5) r c)) (hOf (par (dat x0 x2 x3 x4 x5) r c)) k + hn (wOf (par (dat x0 x2 x3 x4 x5) r c)) (hOf (par (dat x0 x2 x3 x4 x5) r c)) (k + 1)))
      r c (v52_at x0 x2 x3 x4 x5 r c) _).trans ?_
    rw [phiKnot_eq (wOf_pos _) (hOf_pos _)]
    show ((area _ _ (k.val - 1 + 1) / _ : ℝ) : EReal) = _
    rw [Nat.sub_add_cancel (by omega)]

end Cert.Knots

end
-- ==== Proof.Search.lean ====
/- The reference's search: the number of knots to the left of the coordinate, less one, clipped to a segment number. -/
module

public import proofs.«01_k».proof.Proof.Knots
public import proofs.«01_k».proof.Proof.Gen.ReferenceIdeal.Read
public import Idealize.ShloMosaic.Lib.Pointwise

@[expose] public section

set_option maxRecDepth 16384

noncomputable section

namespace Cert.Search

open Idealize.ShloMosaic Idealize.ShloMosaic.Pointwise
open Cert.ReferenceIdeal Cert.ReferenceIdeal.Gen Cert.ReferenceIdeal.Read Cert.Spec Cert.Spline Cert.Words
open Cert.Params Cert.HostOps Cert.Knots

/-- Which knots lie to the left of a coordinate in segment `K`; `z` says it where the segment number does not. -/
def pattern (K : Fin 8) (z : Bool) (k : Fin 9) : Bool :=
  if K.val = 0 then decide (k.val = 0) && z else if K.val = 7 then decide (k.val ≤ 7) || z else decide (k.val ≤ K.val)

/-- The clipped count of such a pattern is the segment number. -/
theorem count_pattern : ∀ (K : Fin 8) (z : Bool),
    IntOp.minsi 7#32 (IntOp.maxsi 0#32 (IntOp.subi (Finset.univ.fold IntOp.addi 0#32
      (fun k : Fin 9 => if pattern K z k then 1#32 else 0#32)) 1#32)) = BitVec.ofNat 32 K.val := by decide

/-- The number after a segment's. -/
theorem next_word : ∀ K : Fin 8, IntOp.addi (BitVec.ofNat 32 K.val) 1#32 = BitVec.ofNat 32 (K.val + 1) := by decide

/-- A segment's knots follow the pattern. -/
theorem pattern_of_seg {e : ℝ} {w : ℕ → ℝ} {x : EReal} (hw : ∀ k, 0 < w k) (K : Fin 8) (s : IsSeg e w x K.val) (b : Fin 9 → Bool)
    (hb : ∀ k, b k = true ↔ (knot e w k.val : EReal) < x * (cum w 8 : ℝ)) : ∃ z, b = pattern K z := by
  have h0 : 1 ≤ K.val → b 0 = true := fun h => (hb 0).2
    (lt_of_le_of_lt (EReal.coe_le_coe_iff.2 (knot_mono hw (Nat.zero_le _))) (s.left hw h le_rfl))
  have hl : ∀ k : Fin 9, 1 ≤ K.val → k.val ≤ K.val → b k = true := fun k h hk => by
    by_cases hz : k.val = 0
    · rw [show k = 0 from Fin.ext hz]; exact h0 h
    · exact (hb k).2 (s.left hw (by omega) hk)
  have hr : ∀ k : Fin 9, K.val < k.val → K.val ≠ 7 → b k = false := fun k hk h7 => by
    rw [← Bool.not_eq_true, hb]; exact s.right hw hk h7
  have hK := K.isLt
  by_cases h : K.val = 0
  · refine ⟨b 0, funext fun k => ?_⟩
    unfold pattern
    rw [if_pos h]
    by_cases hk : k.val = 0
    · rw [show k = 0 from Fin.ext hk]; simp
    · rw [hr k (by omega) (by omega)]; simp [hk]
  by_cases h7 : K.val = 7
  · refine ⟨b 8, funext fun k => ?_⟩
    unfold pattern
    rw [if_neg h, if_pos h7]
    by_cases hk : k.val ≤ 7
    · rw [hl k (by omega) (by omega)]; simp [hk]
    · rw [show k = 8 from Fin.ext (by have := k.isLt; show k.val = 8; omega)]; simp
  · refine ⟨true, funext fun k => ?_⟩
    unfold pattern
    rw [if_neg h, if_neg h7]
    by_cases hk : k.val ≤ K.val
    · rw [hl k (by omega) hk]; simp [hk]
    · rw [hr k (by omega) h7]; simp [hk]

/-- One where a knot lies to the left, zero elsewhere. -/
def lefts (y z : FVec E S2048x1024x9 .f32) : IVec S2048x1024x9 32 := extui 32 (cmpf .olt y z) natLt_1_32

/-- How many knots lie to the left. -/
def howMany (y z : FVec E S2048x1024x9 .f32) : IVec S2048x1024 32 :=
  Host.reduce IntOp.addi (lefts y z) (constantI S_ 32 0#32) reducesTo_S2048x1024x9_S2048x1024_d2 h_S_

/-- Their number less one, clipped. -/
def search (y z : FVec E S2048x1024x9 .f32) : IVec S2048x1024x1 32 :=
  minsi (broadcastInDim S2048x1024x1 ![] bcast_S_S2048x1024x1 (constantI S_ 32 7#32))
    (maxsi (broadcastInDim S2048x1024x1 ![] bcast_S_S2048x1024x1 (constantI S_ 32 0#32))
      (subi (broadcastInDim S2048x1024x1 ![0, 1] bcast_S2048x1024_S2048x1024x1_0_1 (howMany y z))
        (broadcastInDim S2048x1024x1 ![] bcast_S_S2048x1024x1 (constantI S_ 32 1#32))))

/-- Where the knots follow a segment's pattern the search finds that segment. -/
theorem search_at (y z : FVec E S2048x1024x9 .f32) (r : Fin 2048) (c : Fin 1024) (K : Fin 8) (u : Bool)
    (h : ∀ k : Fin 9, decide ((y (ix3 r c k) : EReal) < z (ix3 r c k)) = pattern K u k) :
    search y z (ix3 r c 0) = BitVec.ofNat 32 K.val := by
  have hl : ∀ k : Fin 9, lefts y z (ix3 r c k) = if pattern K u k then 1#32 else 0#32 := fun k => by
    rw [← h k]
    show (BitVec.ofBool (decide ((y (ix3 r c k) : EReal) < z (ix3 r c k)))).setWidth 32 = _
    cases decide ((y (ix3 r c k) : EReal) < z (ix3 r c k)) <;> rfl
  have hm : howMany y z (ix2 r c) = Finset.univ.fold IntOp.addi 0#32 (fun k : Fin 9 => if pattern K u k then 1#32 else 0#32) := by
    unfold howMany
    generalize lefts y z = v at hl ⊢
    refine (addi_last v _ _ _ r c).trans ?_
    rw [show (fun k => v (ix3 r c k)) = _ from funext hl]
    rfl
  generalize hv : howMany y z = v at hm
  pointwise [search]
  rw [hv, hm]
  exact count_pattern K u

variable (x0 : (⟨S2048x2048, .f32⟩ : BufTy).Contents (Elt E)) (x2 : (⟨S1024x64, .f32⟩ : BufTy).Contents (Elt E))
  (x3 : (⟨S64, .f32⟩ : BufTy).Contents (Elt E)) (x4 : (⟨S64x17408, .f32⟩ : BufTy).Contents (Elt E))
  (x5 : (⟨S17408, .f32⟩ : BufTy).Contents (Elt E)) (r : Fin 2048) (c : Fin 1024)

/-- The coordinate the search looks for. -/
theorem v56_at (k : Fin 9) : val_main_v56 (F := E) x0 (ix3 r c k) = xb (dat x0 x2 x3 x4 x5) r c := by
  pointwise [val_main_v56, val_main_v55, val_main_v1]
  rfl

/-- The segment number as the reference finds it. -/
theorem v63_at (hx : xb (dat x0 x2 x3 x4 x5) r c ≠ ⊥) : val_main_v63 (F := E) x0 x2 x3 x4 x5 (ix3 r c 0) = BitVec.ofNat 32 (seg (dat x0 x2 x3 x4 x5) r c) := by
  have hs := seg_spec (dat x0 x2 x3 x4 x5) r c
  obtain ⟨z, hz⟩ := pattern_of_seg (wOf_pos (par (dat x0 x2 x3 x4 x5) r c)) ⟨seg (dat x0 x2 x3 x4 x5) r c, hs.1⟩ hs
    (fun k : Fin 9 => decide (((cum (wOf (par (dat x0 x2 x3 x4 x5) r c)) k.val / cum (wOf (par (dat x0 x2 x3 x4 x5) r c)) 8 - eps : ℝ) : EReal) < xb (dat x0 x2 x3 x4 x5) r c))
    (fun k => by rw [decide_eq_true_iff]; exact lt_iff (wOf_pos _) hx k.val)
  exact search_at (val_main_v45 (F := E) x0 x2 x3 x4 x5) (val_main_v56 (F := E) x0) r c ⟨seg (dat x0 x2 x3 x4 x5) r c, hs.1⟩ z
    (fun k => by rw [v45_at, v56_at x0 x2 x3 x4 x5]; exact congrFun hz k)

/-- The next knot's number. -/
theorem v67_at (hx : xb (dat x0 x2 x3 x4 x5) r c ≠ ⊥) : val_main_v67 (F := E) x0 x2 x3 x4 x5 (ix3 r c 0) = BitVec.ofNat 32 (seg (dat x0 x2 x3 x4 x5) r c + 1) := by
  have hs := seg_spec (dat x0 x2 x3 x4 x5) r c
  pointwise [val_main_v67, val_main_v66, val_main_c_12]
  rw [v63_at x0 x2 x3 x4 x5 r c hx]
  exact next_word ⟨seg (dat x0 x2 x3 x4 x5) r c, hs.1⟩

end Cert.Search

end
-- ==== Proof.Take.lean ====
/- What the reference reads at the segment: its width, its two heights, its knot and the spline's value there. -/
module

public import proofs.«01_k».proof.Proof.Search
public import proofs.«01_k».proof.Proof.Gen.ReferenceIdeal.Read
public import Idealize.ShloMosaic.Lib.Pointwise

@[expose] public section

set_option maxRecDepth 16384

noncomputable section

namespace Cert.Take

open Idealize.ShloMosaic Idealize.ShloMosaic.Pointwise
open Cert.ReferenceIdeal Cert.ReferenceIdeal.Gen Cert.ReferenceIdeal.Read Cert.Spec Cert.Spline Cert.Words
open Cert.Params Cert.HostOps Cert.Knots Cert.Search

/-- A small number is not wrapped … -/
theorem wrap : ∀ (N : Fin 10) (K : Fin 9), Scalar.select (IntOp.cmpi .slt (BitVec.ofNat 32 K.val) 0#32)
    (IntOp.addi (BitVec.ofNat 32 K.val) (BitVec.ofNat 32 N.val)) (BitVec.ofNat 32 K.val) = BitVec.ofNat 32 K.val := by decide

/-- … lies within the bounds … -/
theorem bounds : ∀ (N : Fin 10) (K : Fin 9), K.val < N.val → IntOp.andi (IntOp.cmpi .sge (BitVec.ofNat 32 K.val) 0#32)
    (IntOp.cmpi .sle (BitVec.ofNat 32 K.val) (BitVec.ofNat 32 (N.val - 1))) = 1#1 := by decide

/-- … and reads back as itself. -/
theorem read_word : ∀ K : Fin 9, (BitVec.ofNat 32 K.val).toInt.toNat = K.val := by decide

/-- A gather at a small number. -/
theorem take_at {α : Type} {R C N : Nat} (hN : N ≤ 9)
    (wf : GatherDims.WF ⟨3, ![R, C, N]⟩ ⟨4, ![R, C, 1, 1]⟩ ⟨3, ![R, C, 1]⟩ [] [2] [0, 1] [2] [0, 1] 3 ![1, 1, 1])
    (x : (⟨3, ![R, C, N]⟩ : Shape).Idx → α) (idx : IVec ⟨4, ![R, C, 1, 1]⟩ 32) (r : Fin R) (c : Fin C) (K : Fin N)
    (h : idx (ix4 r c 0 0) = BitVec.ofNat 32 K.val) : Host.gather (along R C N wf) x idx (ix3 r c 0) = x (ix3 r c K) := by
  have hK := K.isLt
  rw [along_at (by omega) wf x idx r c]
  refine congrArg (fun k => x (ix3 r c k)) (Fin.ext ?_)
  show min (idx (ix4 r c 0 0)).toInt.toNat (N - 1) = K.val
  rw [h, read_word ⟨K.val, by omega⟩]
  show min K.val (N - 1) = K.val
  omega

/-- The numbers to read at, a negative one counted from the end. -/
def wrapped (N : Nat) (k : IVec S2048x1024x1 32) : IVec S2048x1024x1x1 32 :=
  shapeCast _ (select (cmpi .slt k (broadcastInDim S2048x1024x1 ![] bcast_S_S2048x1024x1 (constantI S_ 32 0#32)))
    (addi k (broadcastInDim S2048x1024x1 ![] bcast_S_S2048x1024x1 (constantI S_ 32 (BitVec.ofNat 32 N)))) k)
    shapeCasts_S2048x1024x1_S2048x1024x1x1

/-- Where they lie within the bounds. -/
def inside (N : Nat) (i : IVec S2048x1024x1x1 32) : IVec S2048x1024x1x1 1 :=
  andi (cmpi .sge i (broadcastInDim S2048x1024x1x1 ![] bcast_S_S2048x1024x1x1 (constantI S_ 32 0#32)))
    (cmpi .sle i (broadcastInDim S2048x1024x1x1 ![0, 1, 2, 3] bcast_S1x1x1x1_S2048x1024x1x1_0_1_2_3
      (broadcastInDim S1x1x1x1 ![3] bcast_S1_S1x1x1x1_3 (constantI S1 32 (BitVec.ofNat 32 (N - 1))))))

/-- Reading along the last axis, as the reference does it. -/
def read (N : Nat) (wf : GatherDims.WF ⟨3, ![2048, 1024, N]⟩ ⟨4, ![2048, 1024, 1, 1]⟩ ⟨3, ![2048, 1024, 1]⟩ [] [2] [0, 1] [2] [0, 1] 3 ![1, 1, 1])
    (x : FVec E ⟨3, ![2048, 1024, N]⟩ .f32) (k : IVec S2048x1024x1 32) : FVec E S2048x1024x1 .f32 :=
  select (Host.reduce IntOp.andi (inside N (wrapped N k)) (constantI S_ 1 1#1) reducesTo_S2048x1024x1x1_S2048x1024x1_d3 h_S_)
    (Host.gather (along 2048 1024 N wf) x (wrapped N k))
    (broadcastInDim S2048x1024x1 ![] bcast_S_S2048x1024x1 (constant S_ .f32 0x7FC00000#32))

/-- At a number within the bounds it reads the entry of that number. -/
theorem read_at {N : Nat} (hN : N ≤ 9)
    (wf : GatherDims.WF ⟨3, ![2048, 1024, N]⟩ ⟨4, ![2048, 1024, 1, 1]⟩ ⟨3, ![2048, 1024, 1]⟩ [] [2] [0, 1] [2] [0, 1] 3 ![1, 1, 1])
    (x : FVec E ⟨3, ![2048, 1024, N]⟩ .f32) (k : IVec S2048x1024x1 32) (r : Fin 2048) (c : Fin 1024) (K : Fin N)
    (hk : k (ix3 r c 0) = BitVec.ofNat 32 K.val) : read N wf x k (ix3 r c 0) = x (ix3 r c K) := by
  have hK := K.isLt
  have hi : wrapped N k (ix4 r c 0 0) = BitVec.ofNat 32 K.val := by
    pointwise [wrapped]
    rw [hk]
    exact wrap ⟨N, by omega⟩ ⟨K.val, by omega⟩
  have ho : inside N (wrapped N k) (ix4 r c 0 0) = 1#1 := by
    generalize wrapped N k = i at hi ⊢
    pointwise [inside]
    rw [hi]
    exact bounds ⟨N, by omega⟩ ⟨K.val, by omega⟩ hK
  unfold read
  generalize wrapped N k = i at hi ho ⊢
  generalize inside N i = o at ho ⊢
  show Scalar.select (Host.reduce IntOp.andi o _ _ _ (ix3 r c 0)) (Host.gather (along 2048 1024 N wf) x i (ix3 r c 0)) _ = _
  rw [take_at hN wf x i r c K hi, andi_last o _ _ _ r c, ho]
  rfl

variable (x0 : (⟨S2048x2048, .f32⟩ : BufTy).Contents (Elt E)) (x2 : (⟨S1024x64, .f32⟩ : BufTy).Contents (Elt E))
  (x3 : (⟨S64, .f32⟩ : BufTy).Contents (Elt E)) (x4 : (⟨S64x17408, .f32⟩ : BufTy).Contents (Elt E))
  (x5 : (⟨S17408, .f32⟩ : BufTy).Contents (Elt E)) (r : Fin 2048) (c : Fin 1024)

/-- The segment's normalized width. -/
theorem v64_at (hx : xb (dat x0 x2 x3 x4 x5) r c ≠ ⊥) : val_main_v64 (F := E) x0 x2 x3 x4 x5 (ix3 r c 0)
    = (wn (wOf (par (dat x0 x2 x3 x4 x5) r c)) (seg (dat x0 x2 x3 x4 x5) r c) : EReal) := by
  have hs := (seg_spec (dat x0 x2 x3 x4 x5) r c).1
  exact (read_at (by decide) gather_S2048x1024x8_S2048x1024x1x1_S2048x1024x1_n_2_01_01_2_3_111.wf _ _ r c ⟨seg (dat x0 x2 x3 x4 x5) r c, by omega⟩
    (v63_at x0 x2 x3 x4 x5 r c hx)).trans (v27_at x0 x2 x3 x4 x5 r c _)

/-- Its left height. -/
theorem v65_at (hx : xb (dat x0 x2 x3 x4 x5) r c ≠ ⊥) : val_main_v65 (F := E) x0 x2 x3 x4 x5 (ix3 r c 0)
    = (hn (wOf (par (dat x0 x2 x3 x4 x5) r c)) (hOf (par (dat x0 x2 x3 x4 x5) r c)) (seg (dat x0 x2 x3 x4 x5) r c) : EReal) := by
  have hs := (seg_spec (dat x0 x2 x3 x4 x5) r c).1
  exact (read_at (by decide) gather_S2048x1024x9_S2048x1024x1x1_S2048x1024x1_n_2_01_01_2_3_111.wf _ _ r c ⟨seg (dat x0 x2 x3 x4 x5) r c, by omega⟩
    (v63_at x0 x2 x3 x4 x5 r c hx)).trans (v40_at x0 x2 x3 x4 x5 r c _)

/-- Its right height. -/
theorem v68_at (hx : xb (dat x0 x2 x3 x4 x5) r c ≠ ⊥) : val_main_v68 (F := E) x0 x2 x3 x4 x5 (ix3 r c 0)
    = (hn (wOf (par (dat x0 x2 x3 x4 x5) r c)) (hOf (par (dat x0 x2 x3 x4 x5) r c)) (seg (dat x0 x2 x3 x4 x5) r c + 1) : EReal) := by
  have hs := (seg_spec (dat x0 x2 x3 x4 x5) r c).1
  exact (read_at (by decide) gather_S2048x1024x9_S2048x1024x1x1_S2048x1024x1_n_2_01_01_2_3_111.wf _ _ r c ⟨seg (dat x0 x2 x3 x4 x5) r c + 1, by omega⟩
    (v67_at x0 x2 x3 x4 x5 r c hx)).trans (v40_at x0 x2 x3 x4 x5 r c _)

/-- Its left knot. -/
theorem v69_at (hx : xb (dat x0 x2 x3 x4 x5) r c ≠ ⊥) : val_main_v69 (F := E) x0 x2 x3 x4 x5 (ix3 r c 0)
    = (cum (wOf (par (dat x0 x2 x3 x4 x5) r c)) (seg (dat x0 x2 x3 x4 x5) r c) / cum (wOf (par (dat x0 x2 x3 x4 x5) r c)) 8 - eps : ℝ) := by
  have hs := (seg_spec (dat x0 x2 x3 x4 x5) r c).1
  exact (read_at (by decide) gather_S2048x1024x9_S2048x1024x1x1_S2048x1024x1_n_2_01_01_2_3_111.wf _ _ r c ⟨seg (dat x0 x2 x3 x4 x5) r c, by omega⟩
    (v63_at x0 x2 x3 x4 x5 r c hx)).trans (v45_at x0 x2 x3 x4 x5 r c _)

/-- The value at its left knot. -/
theorem v70_at (hx : xb (dat x0 x2 x3 x4 x5) r c ≠ ⊥) : val_main_v70 (F := E) x0 x2 x3 x4 x5 (ix3 r c 0)
    = (area (wOf (par (dat x0 x2 x3 x4 x5) r c)) (hOf (par (dat x0 x2 x3 x4 x5) r c)) (seg (dat x0 x2 x3 x4 x5) r c) / area (wOf (par (dat x0 x2 x3 x4 x5) r c)) (hOf (par (dat x0 x2 x3 x4 x5) r c)) 8 : ℝ) := by
  have hs := (seg_spec (dat x0 x2 x3 x4 x5) r c).1
  exact (read_at (by decide) gather_S2048x1024x9_S2048x1024x1x1_S2048x1024x1_n_2_01_01_2_3_111.wf _ _ r c ⟨seg (dat x0 x2 x3 x4 x5) r c, by omega⟩
    (v63_at x0 x2 x3 x4 x5 r c hx)).trans (v54_at x0 x2 x3 x4 x5 r c _)

end Cert.Take

end
-- ==== Proof.Reference.lean ====
/- The reference's two results: the input's first half beside the spline's values, and the logarithm less the sum of the
   slopes' logarithms. -/
module

public import proofs.«01_k».proof.Proof.Take
public import proofs.«01_k».proof.Proof.Gen.ReferenceIdeal.Read
public import Idealize.ShloMosaic.Lib.Pointwise

@[expose] public section

set_option maxRecDepth 16384

noncomputable section

namespace Cert.Reference

open Idealize.ShloMosaic Idealize.ShloMosaic.Pointwise
open Cert.ReferenceIdeal Cert.ReferenceIdeal.Gen Cert.ReferenceIdeal.Read Cert.Spec Cert.Spline Cert.Words
open Cert.Params Cert.HostOps Cert.Knots Cert.Search Cert.Take

variable (x0 : (⟨S2048x2048, .f32⟩ : BufTy).Contents (Elt E)) (x2 : (⟨S1024x64, .f32⟩ : BufTy).Contents (Elt E))
  (x3 : (⟨S64, .f32⟩ : BufTy).Contents (Elt E)) (x4 : (⟨S64x17408, .f32⟩ : BufTy).Contents (Elt E))
  (x5 : (⟨S17408, .f32⟩ : BufTy).Contents (Elt E)) (r : Fin 2048) (c : Fin 1024)

/-- The position in the segment. -/
theorem v73_at (hx : xb (dat x0 x2 x3 x4 x5) r c ≠ ⊥) : val_main_v73 (F := E) x0 x2 x3 x4 x5 (ix3 r c 0)
    = rAlpha eps (wOf (par (dat x0 x2 x3 x4 x5) r c)) (xb (dat x0 x2 x3 x4 x5) r c) (seg (dat x0 x2 x3 x4 x5) r c) := by
  have h71 : val_main_v71 (F := E) x0 (ix3 r c 0) = xb (dat x0 x2 x3 x4 x5) r c := by
    pointwise [val_main_v71, val_main_v1]
    rfl
  rw [val_main_v73_apply, val_main_v72_apply, h71, v69_at x0 x2 x3 x4 x5 r c hx, v64_at x0 x2 x3 x4 x5 r c hx]
  rfl

/-- The spline's value. -/
theorem v83_at (hx : xb (dat x0 x2 x3 x4 x5) r c ≠ ⊥) : val_main_v83 (F := E) x0 x2 x3 x4 x5 (ix3 r c 0) = phi (dat x0 x2 x3 x4 x5) r c := by
  have h78 : val_main_v78 (F := E) (ix3 r c 0) = ((1 / 2 : ℝ) : EReal) := half_word
  rw [val_main_v83_apply, val_main_v82_apply, val_main_v81_apply, val_main_v80_apply, val_main_v79_apply, val_main_v77_apply, val_main_v76_apply, val_main_v75_apply, val_main_v74_apply, v73_at x0 x2 x3 x4 x5 r c hx, v70_at x0 x2 x3 x4 x5 r c hx, v65_at x0 x2 x3 x4 x5 r c hx, v64_at x0 x2 x3 x4 x5 r c hx, v68_at x0 x2 x3 x4 x5 r c hx, h78]
  rfl

/-- The spline's slope. -/
theorem v88_at (hx : xb (dat x0 x2 x3 x4 x5) r c ≠ ⊥) : val_main_v88 (F := E) x0 x2 x3 x4 x5 (ix3 r c 0) = grad (dat x0 x2 x3 x4 x5) r c := by
  rw [val_main_v88_apply, val_main_v87_apply, val_main_v86_apply, v73_at x0 x2 x3 x4 x5 r c hx, v65_at x0 x2 x3 x4 x5 r c hx, v68_at x0 x2 x3 x4 x5 r c hx]
  rfl

/-- The first result. -/
theorem v85_at (hx : ∀ c, xb (dat x0 x2 x3 x4 x5) r c ≠ ⊥) (q : Fin 2048) : val_main_v85 (F := E) x0 x2 x3 x4 x5 (ix2 r q) = out (dat x0 x2 x3 x4 x5) r q := by
  have h84 : ∀ c, val_main_v84 (F := E) x0 x2 x3 x4 x5 (ix2 r c) = phi (dat x0 x2 x3 x4 x5) r c := fun c => by
    have h83 := v83_at x0 x2 x3 x4 x5 r c (hx c)
    unfold val_main_v84
    generalize val_main_v83 (F := E) x0 x2 x3 x4 x5 = y at h83 ⊢
    pointwise
    exact h83
  have h0 : ∀ c : Fin 1024, val_main_v0 (F := E) x0 (ix2 r c) = x0 (ix2 r ⟨c.val, by omega⟩) := fun c => by
    rw [val_main_v0_apply]
    exact congrArg x0 (eq_ix2 _)
  unfold val_main_v85
  generalize val_main_v84 (F := E) x0 x2 x3 x4 x5 = y at h84 ⊢
  generalize val_main_v0 (F := E) x0 = z at h0 ⊢
  pointwise
  by_cases h : q.val < 1024
  · rw [dif_pos h, h0, out, dif_pos h]
    rfl
  · rw [dif_neg h, h84, out, dif_neg h]

/-- The second result. -/
theorem v91_at (x1 : (⟨S2048x1, .f32⟩ : BufTy).Contents (Elt E)) (hx : ∀ c, xb (dat x0 x2 x3 x4 x5) r c ≠ ⊥) :
    val_main_v91 (F := E) x0 x1 x2 x3 x4 x5 (ix2 r 0) = x1 (ix2 r 0) - logs (dat x0 x2 x3 x4 x5) r := by
  have h89 : ∀ c, val_main_v89 (F := E) x0 x2 x3 x4 x5 (ix3 r c 0) = Ideal.log (grad (dat x0 x2 x3 x4 x5) r c) := fun c => by
    rw [val_main_v89_apply, v88_at x0 x2 x3 x4 x5 r c (hx c)]
    rfl
  have h90 : val_main_v90 (F := E) x0 x2 x3 x4 x5 (ix2 r 0) = logs (dat x0 x2 x3 x4 x5) r := by
    unfold val_main_v90 logs
    generalize val_main_v89 (F := E) x0 x2 x3 x4 x5 = y at h89 ⊢
    refine (sum_middle y _ _ _ r).trans ?_
    rw [show val_main_cst_14 (F := E) (Shape.Idx.first h_S_) = (0 : EReal) from zero_word, zero_add]
    exact Finset.sum_congr rfl fun c _ => h89 c
  rw [val_main_v91_apply, h90]
  rfl

end Cert.Reference

end
-- ==== Proof.Equation.lean ====
/- The equation: from memories agreeing on the arguments, with no coordinate of the transformed half -∞, the kernel's two
   results are the reference's. -/
module

public import proofs.«01_k».proof.Proof.Arrays
public import proofs.«01_k».proof.Proof.Reference
public import proofs.«01_k».proof.Defs

@[expose] public section

set_option maxRecDepth 16384

noncomputable section

namespace Cert.Equation

open Idealize.ShloMosaic Idealize.ShloMosaic.Pointwise Idealize.SL.Sem
open Cert.Spec

/-- The precondition's text at an element. -/
theorem above_at [Pre_above_minus_infinity.Facts] (a0 : FVec Ideal Pre_above_minus_infinity.S2048x2048 .f32)
    (a1 : FVec Ideal Pre_above_minus_infinity.S2048x1 .f32) (a2 : FVec Ideal Pre_above_minus_infinity.S1024x64 .f32)
    (a3 : FVec Ideal Pre_above_minus_infinity.S64 .f32) (a4 : FVec Ideal Pre_above_minus_infinity.S64x17408 .f32)
    (a5 : FVec Ideal Pre_above_minus_infinity.S17408 .f32)
    (h : Pre_above_minus_infinity.fn (F := Ideal) a0 a1 a2 a3 a4 a5 = fun _ => 1#1) (r : Fin 2048) (q : Fin 1024) :
    a0 (ix2 r ⟨1024 + q.val, by omega⟩) ≠ (⊥ : EReal) := by
  have hrq := congrFun h (ix2 r q)
  unfold Pre_above_minus_infinity.fn at hrq
  dsimp only at hrq
  have e : extractStridedSlice Pre_above_minus_infinity.S2048x1024 ![0, 1024] a0
      Pre_above_minus_infinity.Facts.slices_S2048x2048_S2048x1024_0_1024 (ix2 r q) = a0 (ix2 r ⟨1024 + q.val, by omega⟩) := by
    pointwise
  change FloatOps.cmpf .ogt (extractStridedSlice Pre_above_minus_infinity.S2048x1024 ![0, 1024] a0
      Pre_above_minus_infinity.Facts.slices_S2048x2048_S2048x1024_0_1024 (ix2 r q)) (Ideal.ofBits .f32 0xFF800000#32) = 1#1 at hrq
  rw [e, Words.bot_word] at hrq
  intro hb
  rw [hb] at hrq
  change BitVec.ofBool (decide ((⊥ : EReal) < ⊥)) = 1#1 at hrq
  rw [decide_eq_false (lt_irrefl _)] at hrq
  exact absurd hrq (by decide)

/-- Subtracting is adding what is subtracted from zero. -/
theorem add_zero_sub (a b : EReal) : a + (0 - b) = a - b := by rw [zero_sub, sub_eq_add_neg]

/-- The kernel and the reference return equal results. -/
theorem algebraic (pf : Pre_above_minus_infinity.Facts) :
    algebraic_KernelIdeal_ReferenceIdeal_pre_above_minus_infinity (hKernelIdeal := KernelIdeal.Gen.facts)
      (hReferenceIdeal := ReferenceIdeal.Gen.facts) (hPre_above_minus_infinity := pf) := by
  intro m g m' g' hpre hargs
  have hx : ∀ c r q, xb (Arrays.data m c) r q ≠ ⊥ := fun c r q => above_at _ _ _ _ _ _ (hpre c) r q
  refine ⟨fun c => Arrays.result0 m c, fun c => Arrays.result2 m c, ?_, ?_⟩
  · exact (θ_run _ _ _).mono (fun r h c => ⟨(h c).1.1, (h c).1.2, (h c).2⟩) (Arrays.run m g hx)
  · refine (θ_run _ _ _).mono (fun r h c => ?_) (ReferenceIdeal.Value.run m' g')
    obtain ⟨h0, h1, hrest⟩ := h c
    obtain ⟨a0, a1, a2, a3, a4, a5⟩ := hargs c
    refine ⟨(h0.trans (ReferenceIdeal.Read.val_main_v85_eq _)).trans ?_, (h1.trans (ReferenceIdeal.Read.val_main_v91_eq _)).trans ?_, hrest⟩
    · show ReferenceIdeal.Read.val_main_v85 (F := Ideal) (m' ((c.tc : Thread ReferenceIdeal.nD ReferenceIdeal.τ).loc ReferenceIdeal.main_arg0))
        (m' ((c.tc : Thread ReferenceIdeal.nD ReferenceIdeal.τ).loc ReferenceIdeal.main_arg2))
        (m' ((c.tc : Thread ReferenceIdeal.nD ReferenceIdeal.τ).loc ReferenceIdeal.main_arg3))
        (m' ((c.tc : Thread ReferenceIdeal.nD ReferenceIdeal.τ).loc ReferenceIdeal.main_arg4))
        (m' ((c.tc : Thread ReferenceIdeal.nD ReferenceIdeal.τ).loc ReferenceIdeal.main_arg5)) = _
      rw [a0, a2, a3, a4, a5]
      funext i
      rw [eq_ix2 i]
      exact Reference.v85_at _ _ _ _ _ (i 0) (fun q => hx c _ q) (i 1)
    · show ReferenceIdeal.Read.val_main_v91 (F := Ideal) (m' ((c.tc : Thread ReferenceIdeal.nD ReferenceIdeal.τ).loc ReferenceIdeal.main_arg0))
        (m' ((c.tc : Thread ReferenceIdeal.nD ReferenceIdeal.τ).loc ReferenceIdeal.main_arg1))
        (m' ((c.tc : Thread ReferenceIdeal.nD ReferenceIdeal.τ).loc ReferenceIdeal.main_arg2))
        (m' ((c.tc : Thread ReferenceIdeal.nD ReferenceIdeal.τ).loc ReferenceIdeal.main_arg3))
        (m' ((c.tc : Thread ReferenceIdeal.nD ReferenceIdeal.τ).loc ReferenceIdeal.main_arg4))
        (m' ((c.tc : Thread ReferenceIdeal.nD ReferenceIdeal.τ).loc ReferenceIdeal.main_arg5)) = _
      rw [a0, a1, a2, a3, a4, a5]
      funext i
      have hi : i = ix2 (i 0) 0 := (eq_ix2 i).trans (congrArg (ix2 (i 0)) (Fin.fin_one_eq_zero (i 1)))
      rw [hi]
      exact (Reference.v91_at _ _ _ _ _ (i 0) _ (fun q => hx c _ q)).trans (add_zero_sub _ _).symm

end Cert.Equation

end
-- ==== Proof.Shift.lean ====
/- The reference with EPS off every knot and the one with EPS off the first alone, on calls whose input is one number
   throughout and whose weights are zero: every stage but the knots and what is read of them is the same. -/
module

public import proofs.«01_k».proof.Proof.Reference
public import proofs.«01_k».proof.Proof.Gen.ShiftedIdeal
public import proofs.«01_k».proof.Proof.Gen.ShiftedIdeal.Run
public import proofs.«01_k».proof.Proof.Gen.ShiftedIdeal.Read
public import proofs.«01_k».proof.Proof.Gen.LiteralIdeal
public import proofs.«01_k».proof.Proof.Gen.LiteralIdeal.Run
public import proofs.«01_k».proof.Proof.Gen.LiteralIdeal.Read

@[expose] public section

set_option maxRecDepth 16384

noncomputable section

namespace Cert.Shift

open Idealize.ShloMosaic Idealize.ShloMosaic.Pointwise
open Cert.ReferenceIdeal.Gen Cert.Spec Cert.Spline Cert.Words
open Cert.Params Cert.HostOps Cert.Knots Cert.Search Cert.Take Cert.Reference
open Cert.LiteralIdeal (S1)

variable (s : (⟨S1, .f32⟩ : BufTy).Contents (Elt E))

/-- The arguments of such a call: one number throughout, and zeros. -/
abbrev a0 : (⟨Cert.ReferenceIdeal.S2048x2048, .f32⟩ : BufTy).Contents (Elt E) := Cert.LiteralIdeal.Read.val_main_v0 (F := E) s
abbrev a2 : (⟨Cert.ReferenceIdeal.S1024x64, .f32⟩ : BufTy).Contents (Elt E) := Cert.LiteralIdeal.Read.val_main_v2 (F := E)
abbrev a3 : (⟨Cert.ReferenceIdeal.S64, .f32⟩ : BufTy).Contents (Elt E) := Cert.LiteralIdeal.Read.val_main_v3 (F := E)
abbrev a4 : (⟨Cert.ReferenceIdeal.S64x17408, .f32⟩ : BufTy).Contents (Elt E) := Cert.LiteralIdeal.Read.val_main_v4 (F := E)
abbrev a5 : (⟨Cert.ReferenceIdeal.S17408, .f32⟩ : BufTy).Contents (Elt E) := Cert.LiteralIdeal.Read.val_main_v5 (F := E)

/-- The shifted reference on such a call is the reference at these arguments. -/
theorem shifted_eq : Cert.ShiftedIdeal.Read.val_main_v91 (F := E) s
    = Cert.ReferenceIdeal.Read.val_main_v85 (F := E) (a0 s) a2 a3 a4 a5 := rfl

/-- The normalized widths, the normalized heights and the spline's values at the knots are the reference's. -/
theorem widths_eq : Cert.LiteralIdeal.Read.val_main_v33 (F := E) s
    = Cert.ReferenceIdeal.Read.val_main_v27 (F := E) (a0 s) a2 a3 a4 a5 := rfl
theorem heights_eq : Cert.LiteralIdeal.Read.val_main_v46 (F := E) s
    = Cert.ReferenceIdeal.Read.val_main_v40 (F := E) (a0 s) a2 a3 a4 a5 := rfl
theorem values_eq : Cert.LiteralIdeal.Read.val_main_v60 (F := E) s
    = Cert.ReferenceIdeal.Read.val_main_v54 (F := E) (a0 s) a2 a3 a4 a5 := rfl

/-- What the literal reference reads at its segment. -/
theorem width_eq : Cert.LiteralIdeal.Read.val_main_v70 (F := E) s
    = read 8 Cert.ReferenceIdeal.gather_S2048x1024x8_S2048x1024x1x1_S2048x1024x1_n_2_01_01_2_3_111.wf
        (Cert.LiteralIdeal.Read.val_main_v33 (F := E) s) (Cert.LiteralIdeal.Read.val_main_v69 (F := E) s) := rfl
theorem left_eq : Cert.LiteralIdeal.Read.val_main_v71 (F := E) s
    = read 9 Cert.ReferenceIdeal.gather_S2048x1024x9_S2048x1024x1x1_S2048x1024x1_n_2_01_01_2_3_111.wf
        (Cert.LiteralIdeal.Read.val_main_v46 (F := E) s) (Cert.LiteralIdeal.Read.val_main_v69 (F := E) s) := rfl
theorem right_eq : Cert.LiteralIdeal.Read.val_main_v74 (F := E) s
    = read 9 Cert.ReferenceIdeal.gather_S2048x1024x9_S2048x1024x1x1_S2048x1024x1_n_2_01_01_2_3_111.wf
        (Cert.LiteralIdeal.Read.val_main_v46 (F := E) s) (Cert.LiteralIdeal.Read.val_main_v73 (F := E) s) := rfl
theorem knot_eq : Cert.LiteralIdeal.Read.val_main_v75 (F := E) s
    = read 9 Cert.ReferenceIdeal.gather_S2048x1024x9_S2048x1024x1x1_S2048x1024x1_n_2_01_01_2_3_111.wf
        (Cert.LiteralIdeal.Read.val_main_v51 (F := E) s) (Cert.LiteralIdeal.Read.val_main_v69 (F := E) s) := rfl
theorem value_eq : Cert.LiteralIdeal.Read.val_main_v76 (F := E) s
    = read 9 Cert.ReferenceIdeal.gather_S2048x1024x9_S2048x1024x1x1_S2048x1024x1_n_2_01_01_2_3_111.wf
        (Cert.LiteralIdeal.Read.val_main_v60 (F := E) s) (Cert.LiteralIdeal.Read.val_main_v69 (F := E) s) := rfl

/-- The literal reference's segment. -/
theorem segment_eq : Cert.LiteralIdeal.Read.val_main_v69 (F := E) s
    = search (Cert.LiteralIdeal.Read.val_main_v51 (F := E) s) (Cert.LiteralIdeal.Read.val_main_v62 (F := E) s) := rfl

/-- The data of such a call. -/
abbrev d : Data := dat (a0 s) a2 a3 a4 a5

/-- With the second layer zero every parameter of the spline is zero … -/
theorem par_zero (r : Fin 2048) (c : Fin 1024) (k : ℕ) : par (d s) r c k = 0 := by
  have hw : ∀ k q, (d s).W2 k q = 0 := fun _ _ => zero_word
  have hb : ∀ q, (d s).b2 q = 0 := fun _ => zero_word
  rw [par, net, hb, Finset.sum_eq_zero fun k _ => by rw [hw, mul_zero], zero_add, ← EReal.coe_zero, Ideal.tanh_coe, EReal.toReal_coe,
    Real.tanh_zero]

/-- … every unnormalized width and height is one. -/
theorem w_one (r : Fin 2048) (c : Fin 1024) : wOf (par (d s) r c) = fun _ => 1 :=
  funext fun k => by rw [wOf, par_zero, Real.exp_zero]
theorem h_one (r : Fin 2048) (c : Fin 1024) : hOf (par (d s) r c) = fun _ => 1 :=
  funext fun k => by rw [hOf, par_zero, Real.exp_zero]

theorem cum_one (k : ℕ) : cum (fun _ => 1) k = k := by simp [cum]
theorem area_one (k : ℕ) : area (fun _ => 1) (fun _ => 1) k = 2 * k := by simp [area]; ring
theorem wn_one (k : ℕ) : wn (fun _ => 1) k = 1 / 8 := by rw [wn, cum_one]; norm_num
theorem hn_one (k : ℕ) : hn (fun _ => 1) (fun _ => 1) k = 1 := by rw [hn, cum_one, area_one]; norm_num

theorem eps_pos : 0 < eps := by unfold eps; positivity
theorem eps_small : eps < 1 / 16 := by unfold eps; norm_num

variable (hs : ∀ i, s i = ((7 / 16 : ℝ) : EReal)) (r : Fin 2048) (c : Fin 1024)
include hs

/-- The coordinate. -/
theorem coord : xb (d s) r c = ((7 / 16 : ℝ) : EReal) := hs _

/-- The shifted reference's segment is 3 … -/
theorem seg_three : seg (d s) r c = 3 := by
  have h := seg_spec (d s) r c
  rw [coord s hs, w_one] at h
  generalize seg (d s) r c = K at h
  obtain ⟨h8, hl, hr⟩ := h
  simp only [knot, cum_one, ← EReal.coe_mul, EReal.coe_lt_coe_iff, not_lt] at hl hr
  have e0 := eps_pos
  have e1 := eps_small
  interval_cases K <;> norm_num at hl hr <;> first | rfl | linarith

/-- … and its value there. -/
theorem shifted_value : phi (d s) r c = ((7 / 16 + eps : ℝ) : EReal) := by
  rw [phi, seg_three s hs, coord s hs, w_one, h_one, rPhi, rAlpha]
  simp only [cum_one, area_one, wn_one, hn_one]
  rw [← EReal.coe_sub, div_real (by norm_num)]
  simp only [← EReal.coe_mul, ← EReal.coe_add, ← EReal.coe_sub]
  congr 1
  push_cast
  ring

omit hs in
/-- The literal reference's knots: `eps` is taken off the first alone. -/
theorem literal_knot (k : Fin 9) : Cert.LiteralIdeal.Read.val_main_v51 (F := E) s (ix3 r c k)
    = ((if k.val = 0 then -eps else (k.val : ℝ) / 8 : ℝ) : EReal) := by
  pointwise [Cert.LiteralIdeal.Read.val_main_v51]
  split
  · next h =>
    have h0 : ∀ i, Cert.LiteralIdeal.Read.val_main_v49 (F := E) i = ((-eps : ℝ) : EReal) := fun i => by
      show Ideal.ofBits .f32 0x00000000#32 - Ideal.ofBits .f32 0x358637BD#32 = _
      rw [zero_word, eps_word, zero_sub, EReal.coe_neg]
    rw [h0, if_pos (by omega)]
  · next h =>
    unfold Cert.LiteralIdeal.Read.val_main_v50
    refine (cumsum_at _ _ (fun _ => zero_word) _ _ (wn (wOf (par (d s) r c))) r c
      (fun k => (congrFun (widths_eq s) _).trans (v27_at (a0 s) a2 a3 a4 a5 r c k)) _).trans ?_
    have hk : k.val ≠ 0 := by
      have hk : ¬ k.val < 1 := h
      omega
    rw [sum_wn, w_one, if_neg hk]
    show ((cum (fun _ => 1) (k.val - 1 + 1) / cum (fun _ => 1) 8 : ℝ) : EReal) = _
    rw [Nat.sub_add_cancel (Nat.pos_of_ne_zero hk), cum_one, cum_one]
    rfl

/-- The literal reference's segment is 3 too. -/
theorem literal_segment : Cert.LiteralIdeal.Read.val_main_v69 (F := E) s (ix3 r c 0) = BitVec.ofNat 32 3 := by
  rw [segment_eq]
  have hz : ∀ k : Fin 9, Cert.LiteralIdeal.Read.val_main_v62 (F := E) s (ix3 r c k) = ((7 / 16 : ℝ) : EReal) := fun k => by
    pointwise [Cert.LiteralIdeal.Read.val_main_v62, Cert.LiteralIdeal.Read.val_main_v61, Cert.LiteralIdeal.Read.val_main_v7]
    exact hs _
  refine search_at _ _ r c 3 true fun k => ?_
  rw [literal_knot s r c k, hz]
  show decide _ = decide (k.val ≤ 3)
  refine decide_eq_decide.2 (EReal.coe_lt_coe_iff.trans ?_)
  have e0 := eps_pos
  split
  · next h => exact iff_of_true (by linarith) (by omega)
  · next h =>
    have h1 : (k.val : ℝ) / 8 < 7 / 16 ↔ (2 * k.val : ℝ) < 7 := by constructor <;> intro _ <;> linarith
    have h2 : (2 * k.val : ℝ) < 7 ↔ 2 * k.val < 7 := by exact_mod_cast Iff.rfl
    rw [h1, h2]
    omega

/-- Its value there is the spline's without the shift. -/
theorem literal_value : Cert.LiteralIdeal.Read.val_main_v89 (F := E) s (ix3 r c 0) = ((7 / 16 : ℝ) : EReal) := by
  have h69 := literal_segment s hs r c
  have h73 : Cert.LiteralIdeal.Read.val_main_v73 (F := E) s (ix3 r c 0) = BitVec.ofNat 32 4 := by
    rw [Cert.LiteralIdeal.Read.val_main_v73_apply, h69]
    rfl
  have hh : ∀ k : Fin 9, Cert.LiteralIdeal.Read.val_main_v46 (F := E) s (ix3 r c k) = ((1 : ℝ) : EReal) := fun k => by
    rw [heights_eq, v40_at, w_one, h_one, hn_one]
  have h70 : Cert.LiteralIdeal.Read.val_main_v70 (F := E) s (ix3 r c 0) = ((1 / 8 : ℝ) : EReal) := by
    refine ((congrFun (width_eq s) _).trans (read_at (N := 8) (by decide) _ _ _ r c 3 h69)).trans ?_
    rw [widths_eq, v27_at, w_one, wn_one]
  have h71 : Cert.LiteralIdeal.Read.val_main_v71 (F := E) s (ix3 r c 0) = ((1 : ℝ) : EReal) := by
    refine ((congrFun (left_eq s) _).trans (read_at (N := 9) (by decide) _ _ _ r c 3 h69)).trans ?_
    rw [hh]
  have h74 : Cert.LiteralIdeal.Read.val_main_v74 (F := E) s (ix3 r c 0) = ((1 : ℝ) : EReal) := by
    refine ((congrFun (right_eq s) _).trans (read_at (N := 9) (by decide) _ _ _ r c 4 h73)).trans ?_
    rw [hh]
  have h75 : Cert.LiteralIdeal.Read.val_main_v75 (F := E) s (ix3 r c 0) = ((3 / 8 : ℝ) : EReal) := by
    refine ((congrFun (knot_eq s) _).trans (read_at (N := 9) (by decide) _ _ _ r c 3 h69)).trans ?_
    rw [literal_knot, if_neg (by decide)]
    norm_num
  have h76 : Cert.LiteralIdeal.Read.val_main_v76 (F := E) s (ix3 r c 0) = ((3 / 8 : ℝ) : EReal) := by
    refine ((congrFun (value_eq s) _).trans (read_at (N := 9) (by decide) _ _ _ r c 3 h69)).trans ?_
    rw [values_eq, v54_at, w_one, h_one, area_one, area_one]
    norm_num
  have h77 : Cert.LiteralIdeal.Read.val_main_v77 (F := E) s (ix3 r c 0) = ((7 / 16 : ℝ) : EReal) := by
    pointwise [Cert.LiteralIdeal.Read.val_main_v77, Cert.LiteralIdeal.Read.val_main_v7]
    exact hs _
  have h84 : Cert.LiteralIdeal.Read.val_main_v84 (F := E) (ix3 r c 0) = ((1 / 2 : ℝ) : EReal) := half_word
  have h79 : Cert.LiteralIdeal.Read.val_main_v79 (F := E) s (ix3 r c 0) = ((1 / 2 : ℝ) : EReal) := by
    rw [Cert.LiteralIdeal.Read.val_main_v79_apply, Cert.LiteralIdeal.Read.val_main_v78_apply, h77, h75, h70]
    show Ideal.div (((7 / 16 : ℝ) : EReal) - ((3 / 8 : ℝ) : EReal)) ((1 / 8 : ℝ) : EReal) = _
    rw [← EReal.coe_sub, div_real (by norm_num)]
    norm_num
  rw [Cert.LiteralIdeal.Read.val_main_v89_apply, Cert.LiteralIdeal.Read.val_main_v88_apply, Cert.LiteralIdeal.Read.val_main_v87_apply,
    Cert.LiteralIdeal.Read.val_main_v86_apply, Cert.LiteralIdeal.Read.val_main_v85_apply, Cert.LiteralIdeal.Read.val_main_v83_apply,
    Cert.LiteralIdeal.Read.val_main_v82_apply, Cert.LiteralIdeal.Read.val_main_v81_apply, Cert.LiteralIdeal.Read.val_main_v80_apply,
    h76, h79, h71, h70, h84, h74]
  show (((3 / 8 : ℝ) : EReal) + ((1 / 2 : ℝ) : EReal) * ((1 : ℝ) : EReal) * ((1 / 8 : ℝ) : EReal))
    + ((1 / 2 : ℝ) : EReal) * (((1 / 2 : ℝ) : EReal) * ((1 / 2 : ℝ) : EReal)) * (((1 : ℝ) : EReal) - ((1 : ℝ) : EReal)) * ((1 / 8 : ℝ) : EReal) = _
  simp only [← EReal.coe_mul, ← EReal.coe_add, ← EReal.coe_sub]
  norm_num

/-- The two references' first results differ at the first transformed coordinate. -/
theorem results_ne : Cert.ShiftedIdeal.Read.val_main_v91 (F := E) s ≠ Cert.LiteralIdeal.Read.val_main_v91 (F := E) s := fun he => by
  have h1 : Cert.ShiftedIdeal.Read.val_main_v91 (F := E) s (ix2 0 1024) = ((7 / 16 + eps : ℝ) : EReal) := by
    rw [shifted_eq]
    refine (v85_at (a0 s) a2 a3 a4 a5 0 (fun c => ?_) 1024).trans ?_
    · rw [coord s hs]; exact EReal.coe_ne_bot _
    · rw [out, dif_neg (by decide)]
      exact shifted_value s hs 0 _
  have h2 : Cert.LiteralIdeal.Read.val_main_v91 (F := E) s (ix2 0 1024) = ((7 / 16 : ℝ) : EReal) := by
    have h90 : Cert.LiteralIdeal.Read.val_main_v90 (F := E) s (ix2 0 0) = ((7 / 16 : ℝ) : EReal) := by
      have h89 := literal_value s hs 0 0
      unfold Cert.LiteralIdeal.Read.val_main_v90
      generalize Cert.LiteralIdeal.Read.val_main_v89 (F := E) s = y at h89 ⊢
      pointwise
      exact h89
    unfold Cert.LiteralIdeal.Read.val_main_v91
    generalize Cert.LiteralIdeal.Read.val_main_v90 (F := E) s = y at h90 ⊢
    generalize Cert.LiteralIdeal.Read.val_main_v6 (F := E) s = z
    pointwise
    exact h90
  rw [he, h2, EReal.coe_eq_coe_iff] at h1
  have e0 := eps_pos
  linarith

end Cert.Shift

end
-- ==== Proof.Disproof.lean ====
/- The disproof: at the input 7/16 the reference with EPS off every knot ends with another array than the one with EPS off
   the first knot alone. -/
module

public import proofs.«01_k».proof.Proof.Shift
public import proofs.«01_k».proof.Defs

@[expose] public section

set_option maxRecDepth 16384

noncomputable section

namespace Cert.Disproof

open Idealize.ShloMosaic Idealize.SL.Sem

/-- The counterexample's number. -/
theorem number_word : Ideal.ofBits .f32 0x3EE00000#32 = ((7 / 16 : ℝ) : EReal) := by
  rw [Words.normal_word _ false 125 6291456 (by decide) (by decide) (by decide) (by decide) (by decide)]
  norm_num

theorem number_at (i : (⟨1, ![1]⟩ : Shape).Idx) : Cx_ShiftedIdeal.arg0 (F := Ideal) i = ((7 / 16 : ℝ) : EReal) := by
  unfold Cx_ShiftedIdeal.arg0 Cx_ShiftedIdeal.arg0_words
  rw [show i 0 = (0 : Fin 1) from Fin.fin_one_eq_zero _]
  exact number_word

/-- Both references run, and their first results differ. -/
theorem disproof : disproves_algebraic_ShiftedIdeal_LiteralIdeal (hShiftedIdeal := ShiftedIdeal.Gen.facts)
    (hLiteralIdeal := LiteralIdeal.Gen.facts) := by
  intro m g m' g' hm hm'
  refine ⟨trivial, _, _, ?_, (θ_run _ _ _).mono (fun r h c => ⟨(h c).1, (h c).2.1⟩) (LiteralIdeal.Value.run m' g')⟩
  refine (θ_run _ _ _).mono (fun r h hall => ?_) (ShiftedIdeal.Value.run m g)
  have h0 := (h 0).1.symm.trans (hall 0).1
  have e : Cert.ShiftedIdeal.Read.val_main_v91 (F := Ideal) (m ((Dev.tc 0 : Thread ShiftedIdeal.nD ShiftedIdeal.τ).loc ShiftedIdeal.main_arg0))
      = Cert.LiteralIdeal.Read.val_main_v91 (F := Ideal) (m' ((Dev.tc 0 : Thread LiteralIdeal.nD LiteralIdeal.τ).loc LiteralIdeal.main_arg0)) :=
    ((ShiftedIdeal.Read.val_main_v91_eq _).symm.trans h0).trans (LiteralIdeal.Read.val_main_v91_eq _)
  rw [hm' 0, hm 0] at e
  exact Shift.results_ne _ number_at e

end Cert.Disproof

end
-- ==== Proof.lean ====
/- The machine-checked claims about the spline-coupling kernel: every program leaves its arguments and its semaphore
   counters as it found them, the idealization rewrites no operation, and over
   the extended reals the kernel and the reference return equal results; and the reference with EPS off every knot is not
   the one with EPS off the first knot alone. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import proofs.«01_k».proof.Proof.Disproof
public import Idealize.ShloMosaic.Adequacy
public import Idealize.ShloMosaic.Lib.Quiescent
public import Idealize.ShloMosaic.Init

@[expose] public section

noncomputable section

namespace Cert.Proof

open Idealize.ShloMosaic Idealize.SL.Sem

/-- The reference leaves its arguments alone; it has no semaphore, so every counter is zero at the end. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5))
      ∧ r.2.sem = fun _ => 0) :=
  (θ_run _ _ _).mono
    (fun r h => ⟨fun c => (h c).2.2, sem_eq_zero_of_no_sems (by decide) r.2⟩)
    (ReferenceIdeal.Value.run m g)

/-- The precondition's own text is well formed: its slice lies inside the input and its constant broadcasts. -/
theorem pre_facts : Pre_above_minus_infinity.Facts where
  slices_S2048x2048_S2048x1024_0_1024 := by decide
  bcast_S_S2048x1024 := by decide

theorem claim : Cert.Claim :=
  ⟨Cert.Kernel.Gen.facts, Cert.KernelIdeal.Gen.facts, Cert.ReferenceIdeal.Gen.facts, Cert.ShiftedIdeal.Gen.facts,
    Cert.LiteralIdeal.Gen.facts, pre_facts,
    fun m g _ => Kernel.Gen.frame m g, fun m g _ => KernelIdeal.Gen.frame m g, fun m g _ => KernelIdeal.Gen.frame m g,
    fun m g _ => reference_frame m g, fun m g _ => reference_frame m g, trivial,
    Equation.algebraic pre_facts, Disproof.disproof⟩

end Cert.Proof

end
